-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm_w [hPre_finite_norm_w : Cert.Pre_finite_norm_w.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm_w.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm_w [hPre_finite_norm_w : Cert.Pre_finite_norm_w.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm_w.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_norm_w [hKernelIdeal : Cert.KernelIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm_w m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_norm_w [hReferenceIdeal : Cert.ReferenceIdeal.Facts] [hPre_finite_norm_w : Cert.Pre_finite_norm_w.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm_w m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal_pre_finite_norm_w [hKernelIdeal : Cert.KernelIdeal.Facts] [hReferenceIdeal : Cert.ReferenceIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm_w m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_norm_w : Cert.Pre_finite_norm_w.Facts),
    quiescent_Kernel (hKernel := hKernel)
    ∧ quiescent_KernelIdeal (hKernelIdeal := hKernelIdeal)
    ∧ quiescent_KernelIdeal_pre_finite_norm_w (hKernelIdeal := hKernelIdeal) (hPre_finite_norm_w := hPre_finite_norm_w)
    ∧ quiescent_ReferenceIdeal (hReferenceIdeal := hReferenceIdeal)
    ∧ quiescent_ReferenceIdeal_pre_finite_norm_w (hReferenceIdeal := hReferenceIdeal) (hPre_finite_norm_w := hPre_finite_norm_w)
    ∧ preserves_Kernel_KernelIdeal
    ∧ algebraic_KernelIdeal_ReferenceIdeal_pre_finite_norm_w (hKernelIdeal := hKernelIdeal) (hReferenceIdeal := hReferenceIdeal) (hPre_finite_norm_w := hPre_finite_norm_w)
-- ==== Pre_finite_norm_w.lean ====
abbrev S12x2048x3072 : Shape := ⟨3, ![12, 2048, 3072]⟩
abbrev S3072 : Shape := ⟨1, ![3072]⟩
abbrev S3072x8192 : Shape := ⟨2, ![3072, 8192]⟩
abbrev S8192 : Shape := ⟨1, ![8192]⟩
abbrev S128 : Shape := ⟨1, ![128]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel

variable [Facts]

def fn {F : FTy → Type} [FloatOps F] (main_arg0 : FVec F S12x2048x3072 .bf16) (main_arg1 : FVec F S3072 .f32) (main_arg2 : FVec F S3072x8192 .fp8e4m3) (main_arg3 : FVec F S8192 .f32) (main_arg4 : FVec F S128 .f32) (main_arg5 : FVec F S128 .f32) : IVec S_ 1 :=
  let main_v0 : FVec F S3072 .f32 := Host.absf main_arg1
  let main_cst : FVec F S_ .f32 := constant S_ .f32 0x7F7FFFFF#32
  let main_v1 : FVec F S3072 .f32 := broadcastInDim S3072 ![] bcast_S_S3072 main_cst
  let main_v2 : IVec S3072 1 := cmpf .ole main_v0 main_v1
  let main_c : IVec S_ 1 := constantI S_ 1 1#1
  let main_v3 : IVec S_ 1 := (fun x v => Host.reduce IntOp.andi x v reducesTo_S3072_S_d0 h_S_) main_v2 main_c
  main_v3
-- ==== Kernel.lean ====
abbrev S12x2048x3072 : Shape := ⟨3, ![12, 2048, 3072]⟩
abbrev S3072 : Shape := ⟨1, ![3072]⟩
abbrev S3072x8192 : Shape := ⟨2, ![3072, 8192]⟩
abbrev S8192 : Shape := ⟨1, ![8192]⟩
abbrev S128 : Shape := ⟨1, ![128]⟩
abbrev S24576x3072 : Shape := ⟨2, ![24576, 3072]⟩
abbrev S1x3072 : Shape := ⟨2, ![1, 3072]⟩
abbrev S1x8192 : Shape := ⟨2, ![1, 8192]⟩
abbrev S1x128 : Shape := ⟨2, ![1, 128]⟩
abbrev S1179648x128 : Shape := ⟨2, ![1179648, 128]⟩
abbrev S196608x128 : Shape := ⟨2, ![196608, 128]⟩
abbrev S12x2048 : Shape := ⟨2, ![12, 2048]⟩
abbrev S256x3072 : Shape := ⟨2, ![256, 3072]⟩
abbrev S12288x128 : Shape := ⟨2, ![12288, 128]⟩
abbrev S2048x128 : Shape := ⟨2, ![2048, 128]⟩
abbrev S256x128 : Shape := ⟨2, ![256, 128]⟩
abbrev S32x3072 : Shape := ⟨2, ![32, 3072]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S128x128 : Shape := ⟨2, ![128, 128]⟩
abbrev S12x128 : Shape := ⟨2, ![12, 128]⟩
abbrev S3072x512 : Shape := ⟨2, ![3072, 512]⟩
abbrev S256x512 : Shape := ⟨2, ![256, 512]⟩
abbrev S256 : Shape := ⟨1, ![256]⟩
abbrev S256x1 : Shape := ⟨2, ![256, 1]⟩
abbrev S6144x128 : Shape := ⟨2, ![6144, 128]⟩
abbrev S6144x2x128 : Shape := ⟨3, ![6144, 2, 128]⟩
abbrev S256x2x128 : Shape := ⟨3, ![256, 2, 128]⟩
abbrev S256x1x128 : Shape := ⟨3, ![256, 1, 128]⟩
abbrev S1024x128 : Shape := ⟨2, ![1024, 128]⟩
abbrev S1024x2x128 : Shape := ⟨3, ![1024, 2, 128]⟩

abbrev nBuf : Space → Nat
  | .hbm => 16
  | .vmem => 17
  | .smem => 0
  | _ => 0

abbrev bufTy : (tb : Table) → Fin (tcTables nBuf tb) → BufTy
  | .hbm, ⟨0, _⟩ => ⟨S12x2048x3072, .bf16⟩
  | .hbm, ⟨1, _⟩ => ⟨S3072, .f32⟩
  | .hbm, ⟨2, _⟩ => ⟨S3072x8192, .fp8e4m3⟩
  | .hbm, ⟨3, _⟩ => ⟨S8192, .f32⟩
  | .hbm, ⟨4, _⟩ => ⟨S128, .f32⟩
  | .hbm, ⟨5, _⟩ => ⟨S128, .f32⟩
  | .hbm, ⟨6, _⟩ => ⟨S24576x3072, .bf16⟩
  | .hbm, ⟨7, _⟩ => ⟨S1x3072, .f32⟩
  | .hbm, ⟨8, _⟩ => ⟨S1x8192, .f32⟩
  | .hbm, ⟨9, _⟩ => ⟨S1x128, .f32⟩
  | .hbm, ⟨10, _⟩ => ⟨S1x128, .f32⟩
  | .hbm, ⟨11, _⟩ => ⟨S1179648x128, .bf16⟩
  | .hbm, ⟨12, _⟩ => ⟨S196608x128, .bf16⟩
  | .hbm, ⟨13, _⟩ => ⟨S196608x128, .bf16⟩
  | .hbm, ⟨14, _⟩ => ⟨S24576x3072, .fp8e4m3⟩
  | .hbm, ⟨15, _⟩ => ⟨S12x2048, .f32⟩
  | .local _ .vmem, ⟨0, _⟩ => ⟨S256x3072, .bf16⟩
  | .local _ .vmem, ⟨1, _⟩ => ⟨S256x3072, .bf16⟩
  | .local _ .vmem, ⟨2, _⟩ => ⟨S1x3072, .f32⟩
  | .local _ .vmem, ⟨3, _⟩ => ⟨S3072x8192, .fp8e4m3⟩
  | .local _ .vmem, ⟨4, _⟩ => ⟨S1x8192, .f32⟩
  | .local _ .vmem, ⟨5, _⟩ => ⟨S1x128, .f32⟩
  | .local _ .vmem, ⟨6, _⟩ => ⟨S1x128, .f32⟩
  | .local _ .vmem, ⟨7, _⟩ => ⟨S12288x128, .bf16⟩
  | .local _ .vmem, ⟨8, _⟩ => ⟨S12288x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S256x3072, .fp8e4m3⟩
  | .local _ .vmem, ⟨14, _⟩ => ⟨S256x3072, .fp8e4m3⟩
  | .local _ .vmem, ⟨15, _⟩ => ⟨S12x2048, .f32⟩
  | .local _ .vmem, ⟨16, _⟩ => ⟨S256x128, .f32⟩
  | _, _ => ⟨S12x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [BitOps F]

abbrev grid0 : Pipeline.Grid := ⟨1, ![96], ![false]⟩

def k0_mult1 (i : grid0.Coords) : BitVec 32 :=
  let arg0 : BitVec 32 := BitVec.ofNat 32 (i 0).val
  let c8_i32_179 : BitVec 32 := 8#32
  let v487 : BitVec 32 := Scalar.remsi arg0 c8_i32_179
  let c256_i32 : BitVec 32 := 256#32
  let v488 : BitVec 32 := Scalar.muli v487 c256_i32
  let c0_i32_184 : BitVec 32 := 0#32
  let v494 : BitVec 32 := Scalar.addi v488 c0_i32_184
  v494
def k0_off1 (i : grid0.Coords) (c0_i32_184 : BitVec 32) : Fin 2 → Nat :=
  let c0_185 : Index := 0#32
  let arg0 : BitVec 32 := BitVec.ofNat 32 (i 0).val
  let c8_i32_179 : BitVec 32 := 8#32
  let v487 : BitVec 32 := Scalar.remsi arg0 c8_i32_179
  let c256_i32 : BitVec 32 := 256#32
  let v488 : BitVec 32 := Scalar.muli v487 c256_i32
  let v494 : BitVec 32 := Scalar.addi v488 c0_i32_184
  let v495 : BitVec 32 := v494
  let v499 : Index := Scalar.indexCast v495
  ![0, v499.toNat]
def k0_mult2 (i : grid0.Coords) : BitVec 32 :=
  let arg0 : BitVec 32 := BitVec.ofNat 32 (i 0).val
  let c8_i32_179 : BitVec 32 := 8#32
  let v487 : BitVec 32 := Scalar.remsi arg0 c8_i32_179
  let c256_i32 : BitVec 32 := 256#32
  let v488 : BitVec 32 := Scalar.muli v487 c256_i32
  let c128_i32 : BitVec 32 := 128#32
  let v512 : BitVec 32 := Scalar.addi v488 c128_i32
  v512
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12288x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S12x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F]
-- ==== ReferenceIdeal.lean ====
abbrev S12x2048x3072 : Shape := ⟨3, ![12, 2048, 3072]⟩
abbrev S3072 : Shape := ⟨1, ![3072]⟩
abbrev S3072x8192 : Shape := ⟨2, ![3072, 8192]⟩
abbrev S8192 : Shape := ⟨1, ![8192]⟩
abbrev S128 : Shape := ⟨1, ![128]⟩
abbrev S24576x3072 : Shape := ⟨2, ![24576, 3072]⟩
abbrev S1x3072 : Shape := ⟨2, ![1, 3072]⟩
abbrev S1x8192 : Shape := ⟨2, ![1, 8192]⟩
abbrev S1x128 : Shape := ⟨2, ![1, 128]⟩
abbrev S1179648x128 : Shape := ⟨2, ![1179648, 128]⟩
abbrev S196608x128 : Shape := ⟨2, ![196608, 128]⟩
abbrev S12x2048 : Shape := ⟨2, ![12, 2048]⟩
abbrev S24576 : Shape := ⟨1, ![24576]⟩
abbrev S24576x1 : Shape := ⟨2, ![24576, 1]⟩
abbrev S24576x8192 : Shape := ⟨2, ![24576, 8192]⟩
abbrev S24576x6144 : Shape := ⟨2, ![24576, 6144]⟩
abbrev S24576x1024 : Shape := ⟨2, ![24576, 1024]⟩
abbrev S1179648 : Shape := ⟨1, ![1179648]⟩
abbrev S1179648x1 : Shape := ⟨2, ![1179648, 1]⟩
abbrev S196608 : Shape := ⟨1, ![196608]⟩
abbrev S196608x1 : Shape := ⟨2, ![196608, 1]⟩

abbrev nBuf : Space → Nat
  | .hbm => 16
  | .vmem => 11
  | .smem => 0
  | _ => 0

abbrev bufTy : (tb : Table) → Fin (tcTables nBuf tb) → BufTy
  | .hbm, ⟨0, _⟩ => ⟨S12x2048x3072, .bf16⟩
  | .hbm, ⟨1, _⟩ => ⟨S3072, .f32⟩
  | .hbm, ⟨2, _⟩ => ⟨S3072x8192, .fp8e4m3⟩
  | .hbm, ⟨3, _⟩ => ⟨S8192, .f32⟩
  | .hbm, ⟨4, _⟩ => ⟨S128, .f32⟩
  | .hbm, ⟨5, _⟩ => ⟨S128, .f32⟩
  | .hbm, ⟨6, _⟩ => ⟨S24576x3072, .bf16⟩
  | .hbm, ⟨7, _⟩ => ⟨S1x3072, .f32⟩
  | .hbm, ⟨8, _⟩ => ⟨S1x8192, .f32⟩
  | .hbm, ⟨9, _⟩ => ⟨S1x128, .f32⟩
  | .hbm, ⟨10, _⟩ => ⟨S1x128, .f32⟩
  | .hbm, ⟨11, _⟩ => ⟨S1179648x128, .bf16⟩
  | .hbm, ⟨12, _⟩ => ⟨S196608x128, .bf16⟩
  | .hbm, ⟨13, _⟩ => ⟨S196608x128, .bf16⟩
  | .hbm, ⟨14, _⟩ => ⟨S24576x3072, .fp8e4m3⟩
  | .hbm, ⟨15, _⟩ => ⟨S12x2048, .f32⟩
  | .local _ .vmem, ⟨0, _⟩ => ⟨S24576x3072, .bf16⟩
  | .local _ .vmem, ⟨1, _⟩ => ⟨S1x3072, .f32⟩
  | .local _ .vmem, ⟨2, _⟩ => ⟨S3072x8192, .fp8e4m3⟩
  | .local _ .vmem, ⟨3, _⟩ => ⟨S1x8192, .f32⟩
  | .local _ .vmem, ⟨4, _⟩ => ⟨S1x128, .f32⟩
  | .local _ .vmem, ⟨5, _⟩ => ⟨S1x128, .f32⟩
  | .local _ .vmem, ⟨6, _⟩ => ⟨S1179648x128, .bf16⟩
  | .local _ .vmem, ⟨7, _⟩ => ⟨S196608x128, .bf16⟩
  | .local _ .vmem, ⟨8, _⟩ => ⟨S196608x128, .bf16⟩
  | .local _ .vmem, ⟨9, _⟩ => ⟨S24576x3072, .fp8e4m3⟩
  | .local _ .vmem, ⟨10, _⟩ => ⟨S12x2048, .f32⟩
  | _, _ => ⟨S12x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24576x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1179648x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S196608x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S196608x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.FrameKernel.lean ====
module

public import proofs.«01_k».proof.Proof.Gen.Kernel.Frame
public import proofs.«01_k».proof.Proof.Gen.Kernel.Skeleton

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F] [∀ e, Nonempty (Elt F e)]

local notation "𝕄" => MT nD τ sig Unit (Elt F) ℕ (UR sig nD τ) ℕ

set_option maxHeartbeats 8000000 in
/-- The kernel body at any grid point, on whole staging memrefs, runs to its return: the inputs' memrefs keep their contents,
    the outputs' and the scratch's hold something. -/
theorem kernelRun (c : Dev nD) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .vmem S3072x8192 .fp8e4m3) (harg3 : arg3.IsWhole) (arg4 : Memref sig .tc .vmem S1x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S12288x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x3072 .fp8e4m3) (harg10 : arg10.IsWhole) (arg11 : Memref sig .tc .vmem S12x2048 .f32) (harg11 : arg11.IsWhole) (arg12 : Memref sig .tc .vmem S256x128 .f32) (harg12 : arg12.IsWhole)
    (x0 : Vec F S256x3072 .bf16) (x1 : Vec F S1x3072 .f32) (x2 : Vec F S3072x8192 .fp8e4m3) (x3 : Vec F S1x8192 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_qkv_fused i arg1 harg1 arg2 harg2 arg3 harg3 arg4 harg4 arg5 harg5 arg6 harg6 arg7 harg7 arg8 harg8 arg9 harg9 arg10 harg10 arg11 harg11 arg12 harg12) K := by
  simp only [cc0_qkv_fused_eq_skeleton]; unfold cc0_qkv_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
  unfold owns
  simp only [harg7.set_eq_univ, harg8.set_eq_univ, harg9.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data: the five results unnamed -/

variable (m : (ℓ : Loc nD τ sig) → Buf (Elt F) ℓ) (ρ : Dev nD → PrngReg)

/-- The five output windows are the ones nothing is said of. -/
def forgets0 : Fin 11 → Bool := fun w => decide (6 ≤ w.val)

/-- The scratch, whole. -/
abbrev scM : Memref sig .tc .vmem S256x128 .f32 := Memref.whole cc0_scratch0

/-- The invariant between grid points: the scratch at some contents and the generator register at some state. -/
theorem PhiA0_eq (c : Dev nD) :
    (Pipeline.ΦA spec0 c : sProp 𝕄)
      = iprop((∃ d, owns (c : Thread nD τ) scM fullShare d) ∗ ∃ r, prngReg c r) := by
  unfold Pipeline.ΦA; rw [scopedRest0_eq]; simp only [scM, owns_whole]; try rfl

/-- The proof data on core `c`: the arrays as the region finds them; each input's buffer left at its block, each output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨HS, Hg⟩, Ho, ⟨%d0, H0⟩, ⟨%d1, H1⟩, ⟨%d2, H2⟩, ⟨%d3, H3⟩, ⟨%d4, H4⟩, ⟨%d5, H5⟩, H6, H7, H8, H9, H10⟩
  iapply (kernelRun c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the five outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every execution terminates with the arrays no output window writes as they were and every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates, the six argument arrays end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Kernel.Hand

end
-- ==== Proof.FrameKernelIdeal.lean ====
module

public import proofs.«01_k».proof.Proof.Gen.KernelIdeal.Frame
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

set_option maxHeartbeats 8000000 in
/-- The kernel body at any grid point, on whole staging memrefs, runs to its return: the inputs' memrefs keep their contents,
    the outputs' and the scratch's hold something. -/
theorem kernelRun (c : Dev nD) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .vmem S3072x8192 .fp8e4m3) (harg3 : arg3.IsWhole) (arg4 : Memref sig .tc .vmem S1x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S12288x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x3072 .fp8e4m3) (harg10 : arg10.IsWhole) (arg11 : Memref sig .tc .vmem S12x2048 .f32) (harg11 : arg11.IsWhole) (arg12 : Memref sig .tc .vmem S256x128 .f32) (harg12 : arg12.IsWhole)
    (x0 : Vec F S256x3072 .bf16) (x1 : Vec F S1x3072 .f32) (x2 : Vec F S3072x8192 .fp8e4m3) (x3 : Vec F S1x8192 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_qkv_fused i arg1 harg1 arg2 harg2 arg3 harg3 arg4 harg4 arg5 harg5 arg6 harg6 arg7 harg7 arg8 harg8 arg9 harg9 arg10 harg10 arg11 harg11 arg12 harg12) K := by
  simp only [cc0_qkv_fused_eq_skeleton]; unfold cc0_qkv_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  simp only [harg7.set_eq_univ, harg8.set_eq_univ, harg9.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data: the five results unnamed -/

variable (m : (ℓ : Loc nD τ sig) → Buf (Elt F) ℓ) (ρ : Dev nD → PrngReg)

/-- The five output windows are the ones nothing is said of. -/
def forgets0 : Fin 11 → Bool := fun w => decide (6 ≤ w.val)

/-- The scratch, whole. -/
abbrev scM : Memref sig .tc .vmem S256x128 .f32 := Memref.whole cc0_scratch0

/-- The invariant between grid points: the scratch at some contents and the generator register at some state. -/
theorem PhiA0_eq (c : Dev nD) :
    (Pipeline.ΦA spec0 c : sProp 𝕄)
      = iprop((∃ d, owns (c : Thread nD τ) scM fullShare d) ∗ ∃ r, prngReg c r) := by
  unfold Pipeline.ΦA; rw [scopedRest0_eq]; simp only [scM, owns_whole]; try rfl

/-- The proof data on core `c`: the arrays as the region finds them; each input's buffer left at its block, each output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨HS, Hg⟩, Ho, ⟨%d0, H0⟩, ⟨%d1, H1⟩, ⟨%d2, H2⟩, ⟨%d3, H3⟩, ⟨%d4, H4⟩, ⟨%d5, H5⟩, H6, H7, H8, H9, H10⟩
  iapply (kernelRun c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the five outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every execution terminates with the arrays no output window writes as they were and every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates, the six argument arrays end as launched, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.KernelIdeal.Hand

end
-- ==== Proof.Rows.lean ====
/- The quantised projection of one token as functions of its row, over the extended reals: the definitions that both
   programs' values are read as, and the kernel's count-of-powers scale. -/
module

public import Idealize.ShloMosaic.PureOps.Ideal

@[expose] public section

noncomputable section

namespace Cert.Rows

open Idealize.ShloMosaic
open scoped BigOperators

/-- The row over the root of its mean square, times the norm's weight. -/
def hRow (x g : Fin 3072 → EReal) (l : Fin 3072) : EReal :=
  x l * Ideal.rsqrt (Ideal.div (∑ k, x k * x k) (Ideal.ofBits .f32 0x45400000#32) + Ideal.ofBits .f32 0x358637BD#32) * g l

/-- The largest magnitude of a row over the largest code. -/
def vRow (h : Fin 3072 → EReal) : EReal :=
  Finset.univ.fold max (Ideal.ofBits .f32 0xFF800000#32) (fun k => max (h k) (-h k)) * Ideal.ofBits .f32 0x3B124925#32

/-- The exponent of the scale: one above the floor of the binary logarithm, zero below the normal range. -/
def eRow (v : EReal) : EReal :=
  if v < Ideal.ofBits .f32 0x00800000#32 then Ideal.ofBits .f32 0x00000000#32
  else Ideal.liftRound Int.floor (Ideal.div (Ideal.log v) (Ideal.log (Ideal.ofBits .f32 0x40000000#32)))
    + Ideal.ofBits .f32 0x3F800000#32

/-- The scale. -/
def sRow (v : EReal) : EReal := Ideal.exp2 (eRow v)

/-- The scale's reciprocal. -/
def iRow (v : EReal) : EReal := Ideal.exp2 (Ideal.ofBits .f32 0x00000000#32 - eRow v)

/-- A code: the value over the scale, clipped to the codes' range. -/
def cRow (h i : EReal) : EReal := min (Ideal.ofBits .f32 0x43E00000#32) (max (Ideal.ofBits .f32 0xC3E00000#32) (h * i))

/-- A column of the projection of a row of codes, with both scales. -/
def yRow (c W : Fin 3072 → EReal) (s ws : EReal) : EReal := (Ideal.ofBits .f32 0x00000000#32 + ∑ k, c k * W k) * s * ws

/-- A head over the root of its mean square, times the norm's weight. -/
def nRow (y g : Fin 128 → EReal) (l : Fin 128) : EReal :=
  y l * Ideal.rsqrt (Ideal.div (∑ k, y k * y k) (Ideal.ofBits .f32 0x43000000#32) + Ideal.ofBits .f32 0x358637BD#32) * g l

/-- `255` less the number of words `k 2^23`, `k < 256`, read as numbers, that `v` is below; `126` in place of zero. -/
def bRow (v : EReal) : BitVec 32 :=
  let n : BitVec 32 := 255#32 - BitVec.ofNat 32 (Finset.univ.filter fun k : Fin 256 =>
    v < Ideal.ofBits .f32 (BitVec.ofNat 32 k.val <<< 23)).card
  if n = 0#32 then 126#32 else n

/-- The kernel's scale: a power of two by its word. -/
def sK (v : EReal) : EReal := Ideal.ofBits .f32 ((bRow v + 1#32) <<< 23)

/-- The kernel's reciprocal of the scale: a power of two by its word. -/
def iK (v : EReal) : EReal := Ideal.ofBits .f32 ((253#32 - bRow v) <<< 23)

section
variable (X : Fin 24576 → Fin 3072 → EReal) (g : Fin 3072 → EReal) (W : Fin 3072 → Fin 8192 → EReal) (ws : Fin 8192 → EReal)

/-- The largest magnitude of token `t` over the largest code. -/
def vTok (t : Fin 24576) : EReal := vRow (hRow (X t) g)

/-- The codes of token `t`. -/
def codeTok (t : Fin 24576) (l : Fin 3072) : EReal := cRow (hRow (X t) g l) (iRow (vTok X g t))

/-- The projection of token `t`. -/
def yTok (t : Fin 24576) (col : Fin 8192) : EReal :=
  yRow (codeTok X g t) (fun k => W k col) (sRow (vTok X g t)) (ws col)

/-- Row `j` of the query heads, `48` heads to a token, normed. -/
def qTok (nw : Fin 128 → EReal) (j : Fin 1179648) (l : Fin 128) : EReal :=
  nRow (fun k => yTok X g W ws (⟨j.val / 48, by omega⟩ : Fin 24576) (⟨j.val % 48 * 128 + k.val, by omega⟩ : Fin 8192)) nw l

/-- Row `j` of the key heads, `8` heads to a token, normed. -/
def kTok (nw : Fin 128 → EReal) (j : Fin 196608) (l : Fin 128) : EReal :=
  nRow (fun k => yTok X g W ws (⟨j.val / 8, by omega⟩ : Fin 24576) (⟨6144 + (j.val % 8 * 128 + k.val), by omega⟩ : Fin 8192)) nw l

/-- Row `j` of the value heads, `8` heads to a token. -/
def vvTok (j : Fin 196608) (l : Fin 128) : EReal :=
  yTok X g W ws (⟨j.val / 8, by omega⟩ : Fin 24576) (⟨7168 + (j.val % 8 * 128 + l.val), by omega⟩ : Fin 8192)

/-- The scale of token `q` of batch `b`. -/
def hsScale (b : Fin 12) (q : Fin 2048) : EReal := sRow (vTok X g (⟨b.val * 2048 + q.val, by omega⟩ : Fin 24576))
end

end Cert.Rows

end
-- ==== Proof.Math.lean ====
/- The two spellings of the quantiser's scale agree: the kernel counts the powers of two that are above the token's
   largest magnitude over the largest code, the reference takes one above the floor of its binary logarithm. -/
module

public import proofs.«01_k».proof.Proof.Rows
public import Idealize.ShloMosaic.Lib.IdealHost

@[expose] public section

noncomputable section

namespace Cert.Rows

open Idealize.ShloMosaic
open scoped BigOperators

theorem word_fields : ∀ k : Fin 256,
    ((BitVec.ofNat 32 k.val <<< 23).extractLsb' 23 8).toNat = k.val
    ∧ ((BitVec.ofNat 32 k.val <<< 23).extractLsb' 0 23).toNat = 0
    ∧ ((BitVec.ofNat 32 k.val <<< 23).extractLsb' (8 + 23) 1 == 1#1) = false := by decide +kernel

/-- The word with exponent field `k` and nothing else, for `k` of a normal number, is `2 ^ (k - 127)`. -/
theorem ofBits_word (k : ℕ) (h1 : 1 ≤ k) (h2 : k ≤ 254) :
    Ideal.ofBits .f32 (BitVec.ofNat 32 k <<< 23) = (((2 : ℝ) ^ ((k : ℤ) - 127) : ℝ) : EReal) := by
  obtain ⟨e1, e2, e3⟩ := word_fields ⟨k, by omega⟩
  simp only at e1 e2 e3
  show Ideal.ieee 8 23 _ = _
  unfold Ideal.ieee
  simp only [e1, e2, e3]
  rw [if_neg (by omega), if_neg (by omega)]
  refine congrArg (fun r : ℝ => (r : EReal)) ?_
  have e : (k : ℤ) - 127 = 23 + ((k : ℤ) - (2 ^ (8 - 1) - 1) - (23 : ℕ)) := by push_cast; norm_num
  rw [e, zpow_add₀ (by norm_num)]
  norm_num

theorem ofBits_word_zero : Ideal.ofBits .f32 (BitVec.ofNat 32 0 <<< 23) = 0 := by
  simp [Ideal.ofBits, Ideal.ieee]

theorem ofBits_word_top : Ideal.ofBits .f32 (BitVec.ofNat 32 255 <<< 23) = ⊤ := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_least : Ideal.ofBits .f32 0x00800000#32 = (((2 : ℝ) ^ (-126 : ℤ) : ℝ) : EReal) := by
  have h := ofBits_word 1 (by omega) (by omega)
  norm_num at h ⊢
  exact h

theorem ofBits_rows : Ideal.ofBits .f32 0x45400000#32 = ((3072 : ℝ) : EReal) := by
  simp [Ideal.ofBits, Ideal.ieee, -EReal.coe_mul]; norm_num

theorem ofBits_inv448 : Ideal.ofBits .f32 0x3B124925#32 = ((9586981 * (2 : ℝ) ^ (-32 : ℤ) : ℝ) : EReal) := by
  simp [Ideal.ofBits, Ideal.ieee, -EReal.coe_mul]

theorem ofBits_eps : Ideal.ofBits .f32 0x358637BD#32 = ((8796093 * (2 : ℝ) ^ (-43 : ℤ) : ℝ) : EReal) := by
  simp [Ideal.ofBits, Ideal.ieee, -EReal.coe_mul]

theorem ofBits_max : Ideal.ofBits .f32 0x7F7FFFFF#32 = ((16777215 * (2 : ℝ) ^ (104 : ℤ) : ℝ) : EReal) := by
  simp [Ideal.ofBits, Ideal.ieee, -EReal.coe_mul]

theorem ofBits_neg_inf : Ideal.ofBits .f32 0xFF800000#32 = ⊥ := by
  simp [Ideal.ofBits, Ideal.ieee]

/-- How many exponent fields `k < 256` name a number above `v`, where those not above are the fields up to `n`. -/
theorem card_words (v : EReal) (n : ℕ) (hn : n < 256)
    (h : ∀ k : Fin 256, Ideal.ofBits .f32 (BitVec.ofNat 32 k.val <<< 23) ≤ v ↔ k.val ≤ n) :
    (Finset.univ.filter fun k : Fin 256 => v < Ideal.ofBits .f32 (BitVec.ofNat 32 k.val <<< 23)).card = 255 - n := by
  have e : (Finset.univ.filter fun k : Fin 256 => v < Ideal.ofBits .f32 (BitVec.ofNat 32 k.val <<< 23))
      = Finset.Ioi (⟨n, hn⟩ : Fin 256) := by
    ext k
    rw [Finset.mem_filter, ← not_le, h k, Finset.mem_Ioi, Fin.lt_def]
    simp
  rw [e, Fin.card_Ioi]

theorem bRow_of (v : EReal) (n : ℕ) (hn : n < 256)
    (h : ∀ k : Fin 256, Ideal.ofBits .f32 (BitVec.ofNat 32 k.val <<< 23) ≤ v ↔ k.val ≤ n) :
    bRow v = if n = 0 then 126#32 else BitVec.ofNat 32 n := by
  unfold bRow
  rw [card_words v n hn h]
  have e : 255#32 - BitVec.ofNat 32 (255 - n) = BitVec.ofNat 32 n := by
    apply BitVec.eq_of_toNat_eq
    simp only [BitVec.toNat_sub, BitVec.toNat_ofNat]
    omega
  rw [e]
  by_cases h0 : n = 0
  · rw [if_pos h0, h0]
    exact if_pos rfl
  · rw [if_neg h0]
    refine if_neg fun h' => h0 ?_
    have := congrArg BitVec.toNat h'
    simp only [BitVec.toNat_ofNat] at this
    omega

theorem bRow_small (v : ℝ) (h0 : 0 ≤ v) (h1 : v < (2 : ℝ) ^ (-126 : ℤ)) : bRow (v : EReal) = 126#32 := by
  rw [bRow_of v 0 (by omega), if_pos rfl]
  intro k
  rcases k with ⟨k, hk⟩
  simp only [Nat.le_zero]
  by_cases hk0 : k = 0
  · subst hk0
    rw [ofBits_word_zero]
    exact ⟨fun _ => rfl, fun _ => by exact_mod_cast h0⟩
  · refine ⟨fun h => absurd h (not_le.2 ?_), fun h => absurd h hk0⟩
    by_cases hk1 : k = 255
    · subst hk1
      rw [ofBits_word_top]
      exact EReal.coe_lt_top v
    · rw [ofBits_word k (by omega) (by omega), EReal.coe_lt_coe_iff]
      exact lt_of_lt_of_le h1 (zpow_le_zpow_right₀ (by norm_num) (by omega))

theorem bRow_normal (v : ℝ) (f : ℤ) (hl : (2 : ℝ) ^ f ≤ v) (hu : v < (2 : ℝ) ^ (f + 1)) (f0 : -126 ≤ f) (f1 : f < 126) :
    bRow (v : EReal) = BitVec.ofNat 32 (f + 127).toNat := by
  rw [bRow_of v (f + 127).toNat (by omega), if_neg (by omega)]
  have hv : 0 ≤ v := le_trans (zpow_nonneg (by norm_num) f) hl
  intro k
  rcases k with ⟨k, hk⟩
  simp only
  by_cases hk0 : k = 0
  · subst hk0
    rw [ofBits_word_zero]
    exact ⟨fun _ => Nat.zero_le _, fun _ => by exact_mod_cast hv⟩
  · by_cases hk1 : k = 255
    · subst hk1
      rw [ofBits_word_top]
      exact ⟨fun h => absurd h (not_le.2 (EReal.coe_lt_top v)), fun h => by omega⟩
    · rw [ofBits_word k (by omega) (by omega), EReal.coe_le_coe_iff]
      constructor
      · intro h
        have := lt_of_le_of_lt h hu
        rw [zpow_lt_zpow_iff_right₀ (by norm_num)] at this
        omega
      · intro h
        exact le_trans (zpow_le_zpow_right₀ (by norm_num) (by omega)) hl

theorem eRow_small (v : ℝ) (h1 : v < (2 : ℝ) ^ (-126 : ℤ)) : eRow (v : EReal) = ((0 : ℝ) : EReal) := by
  unfold eRow
  rw [ofBits_least, if_pos (EReal.coe_lt_coe_iff.2 h1), Ideal.ofBits_zero_f32]
  rfl

theorem eRow_normal (v : ℝ) (f : ℤ) (hl : (2 : ℝ) ^ f ≤ v) (hu : v < (2 : ℝ) ^ (f + 1)) (h1 : (2 : ℝ) ^ (-126 : ℤ) ≤ v) :
    eRow (v : EReal) = (((f + 1 : ℤ) : ℝ) : EReal) := by
  have hv : 0 < v := lt_of_lt_of_le (zpow_pos (by norm_num) f) hl
  have h2 : 0 < Real.log 2 := Real.log_pos (by norm_num)
  have fl : ⌊Real.log v * (1 / Real.log 2)⌋ = f := by
    rw [Int.floor_eq_iff, mul_one_div]
    constructor
    · rw [le_div_iff₀ h2, ← Real.log_zpow]
      exact Real.log_le_log (zpow_pos (by norm_num) f) hl
    · rw [div_lt_iff₀ h2]
      have := Real.log_lt_log hv hu
      rw [Real.log_zpow] at this
      push_cast at this
      exact this
  unfold eRow
  rw [ofBits_least, if_neg (not_lt.2 (EReal.coe_le_coe_iff.2 h1)), ofBits_two, Ideal.ofBits_one_f32]
  have e1 : Ideal.log (v : EReal) = ((Real.log v : ℝ) : EReal) := if_neg (not_le.2 hv)
  have e2 : Ideal.log ((2 : ℝ) : EReal) = ((Real.log 2 : ℝ) : EReal) := if_neg (by norm_num)
  rw [e1, e2, Ideal.div_coe h2.ne', ← EReal.coe_mul]
  show (((⌊Real.log v * (1 / Real.log 2)⌋ : ℤ) : ℝ) : EReal) + 1 = _
  rw [fl]
  push_cast
  rfl

theorem exp2_int (f : ℤ) : Ideal.exp2 (((f : ℤ) : ℝ) : EReal) = (((2 : ℝ) ^ f : ℝ) : EReal) := by
  show ((Real.rpow 2 (f : ℝ) : ℝ) : EReal) = _
  rw [Real.rpow_eq_pow, Real.rpow_intCast]

/-- Below `2 ^ 126` the kernel's scale and its reciprocal are the reference's. -/
theorem scale_eq (v : ℝ) (h0 : 0 ≤ v) (h1 : v < (2 : ℝ) ^ (126 : ℤ)) :
    sK (v : EReal) = sRow (v : EReal) ∧ iK (v : EReal) = iRow (v : EReal) := by
  unfold sK iK sRow iRow
  by_cases hs : v < (2 : ℝ) ^ (-126 : ℤ)
  · rw [bRow_small v h0 hs, eRow_small v hs, Ideal.ofBits_zero_f32]
    have e1 : Ideal.exp2 ((0 : ℝ) : EReal) = ((1 : ℝ) : EReal) := by
      have := exp2_int 0
      simpa using this
    have e2 : (0 : EReal) - ((0 : ℝ) : EReal) = ((0 : ℝ) : EReal) := by simp
    have e3 : Ideal.ofBits .f32 (BitVec.ofNat 32 127 <<< 23) = ((1 : ℝ) : EReal) := by
      rw [ofBits_word 127 (by omega) (by omega)]
      norm_num
    rw [e2, e1]
    exact ⟨e3, e3⟩
  · have hs := not_lt.1 hs
    have hv : 0 < v := lt_of_lt_of_le (zpow_pos (by norm_num) _) hs
    obtain ⟨f, hl, hu⟩ := exists_mem_Ico_zpow hv (by norm_num : (1 : ℝ) < 2)
    have f0 : -126 ≤ f := by
      have := lt_of_le_of_lt hs hu
      rw [zpow_lt_zpow_iff_right₀ (by norm_num)] at this
      omega
    have f1 : f < 126 := by
      have := lt_of_le_of_lt hl h1
      rwa [zpow_lt_zpow_iff_right₀ (by norm_num)] at this
    rw [bRow_normal v f hl hu f0 f1, eRow_normal v f hl hu hs, Ideal.ofBits_zero_f32]
    have w1 : BitVec.ofNat 32 (f + 127).toNat + 1#32 = BitVec.ofNat 32 (f + 128).toNat := by
      apply BitVec.eq_of_toNat_eq
      simp only [BitVec.toNat_add, BitVec.toNat_ofNat]
      omega
    have w2 : 253#32 - BitVec.ofNat 32 (f + 127).toNat = BitVec.ofNat 32 (126 - f).toNat := by
      apply BitVec.eq_of_toNat_eq
      simp only [BitVec.toNat_sub, BitVec.toNat_ofNat]
      omega
    have e2 : (0 : EReal) - (((f + 1 : ℤ) : ℝ) : EReal) = (((-(f + 1) : ℤ) : ℝ) : EReal) := by
      rw [zero_sub, Int.cast_neg, EReal.coe_neg]
    rw [w1, w2, ofBits_word _ (by omega) (by omega), ofBits_word _ (by omega) (by omega), e2, exp2_int, exp2_int]
    constructor
    · congr 2
      omega
    · congr 2
      omega

/-- A normed row whose weights are at most the largest finite magnitude is finite, and at most `56` times that. -/
theorem hRow_bound (x g : Fin 3072 → EReal) (hg : ∀ k, max (g k) (-g k) ≤ Ideal.ofBits .f32 0x7F7FFFFF#32) (l : Fin 3072) :
    ∃ r : ℝ, hRow x g l = r ∧ |r| ≤ 56 * (16777215 * (2 : ℝ) ^ (104 : ℤ)) := by
  have hM : (0 : ℝ) ≤ 56 * (16777215 * (2 : ℝ) ^ (104 : ℤ)) := by positivity
  have hgl := hg l
  rw [ofBits_max] at hgl
  obtain ⟨γ, eγ, hγ⟩ : ∃ γ : ℝ, g l = γ ∧ |γ| ≤ 16777215 * (2 : ℝ) ^ (104 : ℤ) := by
    induction h : g l with
    | bot => exact absurd (le_trans (le_max_right _ _) hgl) (by rw [h, EReal.neg_bot]; exact not_le.2 (EReal.coe_lt_top _))
    | top => exact absurd (le_trans (le_max_left _ _) hgl) (by rw [h]; exact not_le.2 (EReal.coe_lt_top _))
    | coe γ =>
      refine ⟨γ, rfl, ?_⟩
      rw [h, ← EReal.coe_neg, max_le_iff, EReal.coe_le_coe_iff, EReal.coe_le_coe_iff] at hgl
      exact abs_le'.2 hgl
  have hsq : ∀ k, 0 ≤ x k * x k := fun k => by
    induction h : x k with
    | bot => simp
    | top => simp
    | coe a => rw [← EReal.coe_mul]; exact_mod_cast mul_self_nonneg a
  have hS0 : 0 ≤ ∑ k, x k * x k := Finset.sum_nonneg fun k _ => hsq k
  have hSl : x l * x l ≤ ∑ k, x k * x k := Finset.single_le_sum (f := fun k => x k * x k) (fun k _ => hsq k) (Finset.mem_univ l)
  unfold hRow
  rw [ofBits_rows, ofBits_eps, Ideal.div_coe (by norm_num), eγ]
  generalize (∑ k, x k * x k) = S at hS0 hSl ⊢
  induction S with
  | bot => simp at hS0
  | top =>
    refine ⟨0, ?_, by rw [abs_zero]; exact hM⟩
    rw [EReal.top_mul_coe_of_pos (by norm_num), EReal.top_add_coe]
    show x l * 0 * _ = _
    simp
  | coe s =>
    obtain ⟨a, ea⟩ : ∃ a : ℝ, x l = a := by
      induction h : x l with
      | bot => rw [h] at hSl; simp at hSl
      | top => rw [h] at hSl; simp at hSl
      | coe a => exact ⟨a, rfl⟩
    rw [ea, ← EReal.coe_mul, EReal.coe_le_coe_iff] at hSl
    have hs : 0 ≤ s := by exact_mod_cast hS0
    rw [ea, ← EReal.coe_mul, ← EReal.coe_add]
    generalize hd : s * (1 / 3072) + 8796093 * (2 : ℝ) ^ (-43 : ℤ) = d
    have hε : (0 : ℝ) < 8796093 * (2 : ℝ) ^ (-43 : ℤ) := by positivity
    have hd0 : 0 < d := by rw [← hd]; positivity
    have hda : a ^ 2 ≤ (56 * Real.sqrt d) ^ 2 := by
      rw [mul_pow, Real.sq_sqrt hd0.le, ← hd]
      nlinarith
    have hq : 0 < Real.sqrt d := Real.sqrt_pos.2 hd0
    have hab : |a| ≤ 56 * Real.sqrt d := abs_le_of_sq_le_sq hda (by positivity)
    have er : Ideal.rsqrt (d : EReal) = (((Real.sqrt d)⁻¹ : ℝ) : EReal) := by
      show (if d < 0 then (⊥ : EReal) else if d = 0 then ⊤ else (((Real.sqrt d)⁻¹ : ℝ) : EReal)) = _
      rw [if_neg (not_lt.2 hd0.le), if_neg hd0.ne']
    refine ⟨a * (Real.sqrt d)⁻¹ * γ, ?_, ?_⟩
    · rw [er, ← EReal.coe_mul, ← EReal.coe_mul]
    · rw [abs_mul]
      refine mul_le_mul ?_ hγ (abs_nonneg _) (by norm_num)
      rw [abs_mul, abs_inv, abs_of_pos hq, ← div_eq_mul_inv, div_le_iff₀ hq]
      exact hab

/-- The largest magnitude of a normed row over the largest code is below `2 ^ 126`. -/
theorem vRow_bound (x g : Fin 3072 → EReal) (hg : ∀ k, max (g k) (-g k) ≤ Ideal.ofBits .f32 0x7F7FFFFF#32) :
    ∃ v : ℝ, vRow (hRow x g) = v ∧ 0 ≤ v ∧ v < (2 : ℝ) ^ (126 : ℤ) := by
  have ha : ∀ k, ∃ r : ℝ, max (hRow x g k) (-hRow x g k) = ((|r| : ℝ) : EReal) ∧ |r| ≤ 56 * (16777215 * (2 : ℝ) ^ (104 : ℤ)) := fun k => by
    obtain ⟨r, e, h⟩ := hRow_bound x g hg k
    refine ⟨r, ?_, h⟩
    rw [e, ← EReal.coe_neg]
    exact (EReal.coe_strictMono.monotone.map_max (a := r) (b := -r)).symm
  unfold vRow
  rw [ofBits_neg_inf, ofBits_inv448]
  have hle : Finset.univ.fold max (⊥ : EReal) (fun k => max (hRow x g k) (-hRow x g k)) ≤ ((56 * (16777215 * (2 : ℝ) ^ (104 : ℤ)) : ℝ) : EReal) := by
    rw [Finset.fold_max_le]
    refine ⟨bot_le, fun k _ => ?_⟩
    obtain ⟨r, e, h⟩ := ha k
    rw [e]
    exact EReal.coe_le_coe_iff.2 h
  have hge : 0 ≤ Finset.univ.fold max (⊥ : EReal) (fun k => max (hRow x g k) (-hRow x g k)) := by
    rw [Finset.le_fold_max]
    refine Or.inr ⟨0, Finset.mem_univ _, ?_⟩
    obtain ⟨r, e, h⟩ := ha 0
    rw [e]
    exact_mod_cast abs_nonneg r
  generalize Finset.univ.fold max (⊥ : EReal) (fun k => max (hRow x g k) (-hRow x g k)) = M at hle hge
  induction M with
  | bot => simp at hge
  | top => exact absurd hle (not_le.2 (EReal.coe_lt_top _))
  | coe μ =>
    have h0 : 0 ≤ μ := by exact_mod_cast hge
    have h1 := EReal.coe_le_coe_iff.1 hle
    refine ⟨μ * (9586981 * (2 : ℝ) ^ (-32 : ℤ)), (EReal.coe_mul _ _).symm, by positivity, ?_⟩
    refine lt_of_le_of_lt (mul_le_mul_of_nonneg_right h1 (by positivity)) ?_
    norm_num

/-- With the norm's weights at most the largest finite magnitude, the kernel's scale and its reciprocal are the reference's at every token. -/
theorem tok_scale (X : Fin 24576 → Fin 3072 → EReal) (g : Fin 3072 → EReal)
    (hg : ∀ k, max (g k) (-g k) ≤ Ideal.ofBits .f32 0x7F7FFFFF#32) (t : Fin 24576) :
    sK (vTok X g t) = sRow (vTok X g t) ∧ iK (vTok X g t) = iRow (vTok X g t) := by
  obtain ⟨v, e, h0, h1⟩ := vRow_bound (X t) g hg
  unfold vTok
  rw [e]
  exact scale_eq v h0 h1

end Cert.Rows

end
-- ==== Proof.Vals.lean ====
module

public import proofs.«01_k».proof.Proof.Gen.KernelIdeal.Frame
public import proofs.«01_k».proof.Proof.Gen.KernelIdeal.Skeleton
public import Idealize.ShloMosaic.Lib.Pointwise
public import Idealize.ShloMosaic.Lib.WritesUnit

@[expose] public section

set_option maxRecDepth 65536

noncomputable section

/-! What one grid point of the kernel leaves in each of its outputs, as functions of the contents of its inputs. -/

namespace Cert.KernelIdeal.Val

open Cert.KernelIdeal Cert.KernelIdeal.Gen
open Idealize.ShloMosaic Idealize.ShloMosaic.TcCoe Idealize.ShloMosaic.Tactic

/-! ### Writing through strided rows of a reshaped view -/

section Views
variable {κ : Kind} {sp : Space} {s s' : Shape} {e : EltTy} {Val : EltTy → Type}

/-- Reading a view after a write through a rectangle of the view reshaped: the payload where the rectangle, matched back,
    lies, the old contents elsewhere. -/
theorem read_write_reshape (v : View sig κ sp s e) (h : s'.numel = s.numel) (r : Rect s') (f : v.ty.Contents Val)
    (w : r.shape.Idx → Val e) (i : s.Idx) (C : Prop) [Decidable C] (y : r.shape.Idx)
    (hin : C → Shape.reshapeEquiv h (r.emb y) = i) (hout : ¬C → ∀ x, Shape.reshapeEquiv h (r.emb x) ≠ i) :
    v.read Val (((v.reshape s' h).slice r).write Val f w Finset.univ) i = if C then w y else v.read Val f i := by
  by_cases hC : C
  · rw [if_pos hC, ← hin hC]
    rw [View.read_apply]
    rw [show v.emb (Shape.reshapeEquiv h (r.emb y)) = ((v.reshape s' h).slice r).emb y from rfl,
      View.write_emb_of_mem _ _ (Finset.mem_univ y), cast_cast, cast_eq]
  · rw [if_neg hC, View.read_apply, View.read_apply, View.write_of_not_mem]
    intro hm
    obtain ⟨x, -, hx⟩ := Finset.mem_map.mp hm
    exact hout hC x (v.emb.injective hx)

end Views

/-- Row pair `p` of every token of a block of `256` tokens of `24` row pairs: what the strided write leaves. -/
theorem read_write_q {κ : Kind} {sp : Space} {Val : EltTy → Type} (v : View sig κ sp S12288x128 .bf16)
    (h : S6144x2x128.numel = S12288x128.numel) (p : ℕ) (hp : p < 24) (inb) (hs) (f : v.ty.Contents Val)
    (w : S256x2x128.Idx → Val .bf16) (i : Fin 12288) (l : Fin 128) :
    v.read Val (((v.reshape S6144x2x128 h).slice ⟨⟨![p, 0, 0], S256x2x128.size, ![24, 1, 1], inb⟩, hs⟩).write Val f w
        Finset.univ) (ix2 i l)
      = if i.val / 2 % 24 = p then w (ix3 (⟨i.val / 48, by omega⟩ : Fin 256) (⟨i.val % 2, by omega⟩ : Fin 2) l)
        else v.read Val f (ix2 i l) := by
  have hin : i.val / 2 % 24 = p → Shape.reshapeEquiv h ((⟨⟨![p, 0, 0], S256x2x128.size, ![24, 1, 1], inb⟩, hs⟩ : Rect S6144x2x128).emb
      (ix3 (⟨i.val / 48, by omega⟩ : Fin 256) (⟨i.val % 2, by omega⟩ : Fin 2) l)) = ix2 i l := by
    intro hC
    refine Shape.reshapeEquiv_eq_of_rowMajor h ?_
    rw [Shape.rowMajor_val_two, Shape.rowMajor_val_three]
    show i.val * 128 + l.val = ((p + 24 * (i.val / 48)) * 2 + (0 + 1 * (i.val % 2))) * 128 + (0 + 1 * l.val)
    omega
  have hout : ¬ i.val / 2 % 24 = p → ∀ x, Shape.reshapeEquiv h ((⟨⟨![p, 0, 0], S256x2x128.size, ![24, 1, 1], inb⟩, hs⟩ : Rect S6144x2x128).emb x)
      ≠ ix2 i l := by
    intro hC x hx
    have h1 := Shape.rowMajor_reshapeEquiv h ((⟨⟨![p, 0, 0], S256x2x128.size, ![24, 1, 1], inb⟩, hs⟩ : Rect S6144x2x128).emb x)
    rw [hx, Shape.rowMajor_val_two, Shape.rowMajor_val_three] at h1
    have h2 : i.val * 128 + l.val = ((p + 24 * (x 0).val) * 2 + (0 + 1 * (x 1).val)) * 128 + (0 + 1 * (x 2).val) := h1
    have x1 : (x 1).val < 2 := (x 1).isLt
    have x2 : (x 2).val < 128 := (x 2).isLt
    have hl := l.isLt
    apply hC
    omega
  exact read_write_reshape (s := S12288x128) (s' := S6144x2x128) v h ⟨⟨![p, 0, 0], S256x2x128.size, ![24, 1, 1], inb⟩, hs⟩ f w (ix2 i l)
    (i.val / 2 % 24 = p) (ix3 (⟨i.val / 48, by omega⟩ : Fin 256) (⟨i.val % 2, by omega⟩ : Fin 2) l) hin hout

/-- The same for blocks of `4` row pairs to the token. -/
theorem read_write_kv {κ : Kind} {sp : Space} {Val : EltTy → Type} (v : View sig κ sp S2048x128 .bf16)
    (h : S1024x2x128.numel = S2048x128.numel) (p : ℕ) (hp : p < 4) (inb) (hs) (f : v.ty.Contents Val)
    (w : S256x2x128.Idx → Val .bf16) (i : Fin 2048) (l : Fin 128) :
    v.read Val (((v.reshape S1024x2x128 h).slice ⟨⟨![p, 0, 0], S256x2x128.size, ![4, 1, 1], inb⟩, hs⟩).write Val f w
        Finset.univ) (ix2 i l)
      = if i.val / 2 % 4 = p then w (ix3 (⟨i.val / 8, by omega⟩ : Fin 256) (⟨i.val % 2, by omega⟩ : Fin 2) l)
        else v.read Val f (ix2 i l) := by
  have hin : i.val / 2 % 4 = p → Shape.reshapeEquiv h ((⟨⟨![p, 0, 0], S256x2x128.size, ![4, 1, 1], inb⟩, hs⟩ : Rect S1024x2x128).emb
      (ix3 (⟨i.val / 8, by omega⟩ : Fin 256) (⟨i.val % 2, by omega⟩ : Fin 2) l)) = ix2 i l := by
    intro hC
    refine Shape.reshapeEquiv_eq_of_rowMajor h ?_
    rw [Shape.rowMajor_val_two, Shape.rowMajor_val_three]
    show i.val * 128 + l.val = ((p + 4 * (i.val / 8)) * 2 + (0 + 1 * (i.val % 2))) * 128 + (0 + 1 * l.val)
    omega
  have hout : ¬ i.val / 2 % 4 = p → ∀ x, Shape.reshapeEquiv h ((⟨⟨![p, 0, 0], S256x2x128.size, ![4, 1, 1], inb⟩, hs⟩ : Rect S1024x2x128).emb x)
      ≠ ix2 i l := by
    intro hC x hx
    have h1 := Shape.rowMajor_reshapeEquiv h ((⟨⟨![p, 0, 0], S256x2x128.size, ![4, 1, 1], inb⟩, hs⟩ : Rect S1024x2x128).emb x)
    rw [hx, Shape.rowMajor_val_two, Shape.rowMajor_val_three] at h1
    have h2 : i.val * 128 + l.val = ((p + 4 * (x 0).val) * 2 + (0 + 1 * (x 1).val)) * 128 + (0 + 1 * (x 2).val) := h1
    have x1 : (x 1).val < 2 := (x 1).isLt
    have x2 : (x 2).val < 128 := (x 2).isLt
    have hl := l.isLt
    apply hC
    omega
  exact read_write_reshape (s := S2048x128) (s' := S1024x2x128) v h ⟨⟨![p, 0, 0], S256x2x128.size, ![4, 1, 1], inb⟩, hs⟩ f w (ix2 i l)
    (i.val / 2 % 4 = p) (ix3 (⟨i.val / 8, by omega⟩ : Fin 256) (⟨i.val % 2, by omega⟩ : Fin 2) l) hin hout

/-! ### The values -/

variable {F : FTy → Type} [FloatOps F]

/-- The codes of `32` rows. -/
def codes32 (x : Vec F S32x3072 .bf16) (w : Vec F S1x3072 .f32) : FVec F S32x3072 .fp8e4m3 :=
  k0_pay5 (k0_pay2 x w) (k0_pay3 x w) 253#32

/-- The scales of `32` rows, one to a row, over `128` lanes. -/
def scale32 (x : Vec F S32x3072 .bf16) (w : Vec F S1x3072 .f32) : FVec F S32x128 .f32 :=
  k0_pay6 (k0_pay4 x w)

/-- The `32` rows from `32 g`. -/
def rows32 (x : Vec F S256x3072 .bf16) (g : Fin 8) : Vec F S32x3072 .bf16 :=
  fun j => x (ix2 (⟨32 * g.val + (j 0).val, by have h : (j 0).val < 32 := (j 0).isLt; omega⟩ : Fin 256) (⟨(j 1).val, (j 1).isLt⟩ : Fin 3072))

/-- The codes of a block of `256` rows. -/
def codesV (x : Vec F S256x3072 .bf16) (w : Vec F S1x3072 .f32) : Vec F S256x3072 .fp8e4m3 :=
  fun j => codes32 (rows32 x ⟨(j 0).val / 32, by have h : (j 0).val < 256 := (j 0).isLt; omega⟩) w
    (ix2 (⟨(j 0).val % 32, by omega⟩ : Fin 32) (⟨(j 1).val, (j 1).isLt⟩ : Fin 3072))

/-- The scales of a block of `256` rows. -/
def scaleV (x : Vec F S256x3072 .bf16) (w : Vec F S1x3072 .f32) : Vec F S256x128 .f32 :=
  fun j => scale32 (rows32 x ⟨(j 0).val / 32, by have h : (j 0).val < 256 := (j 0).isLt; omega⟩) w
    (ix2 (⟨(j 0).val % 32, by omega⟩ : Fin 32) (⟨(j 1).val, (j 1).isLt⟩ : Fin 128))

theorem inb_rows (g : Fin 8) (o : ℕ) (ho : o = 32 * g.val) : ∀ a, (![o, 0] : Fin 2 → ℕ) a + S32x3072.size a ≤ S256x3072.size a := by
  have hg := g.isLt
  intro a
  fin_cases a
  · show o + 32 ≤ 256
    omega
  · exact le_refl 3072

theorem inb_srows (g : Fin 8) (o : ℕ) (ho : o = 32 * g.val) : ∀ a, (![o, 0] : Fin 2 → ℕ) a + S32x128.size a ≤ S256x128.size a := by
  have hg := g.isLt
  intro a
  fin_cases a
  · show o + 32 ≤ 256
    omega
  · exact le_refl 128

theorem inb_w : ∀ a, (![0, 0] : Fin 2 → ℕ) a + S1x3072.size a ≤ S1x3072.size a := by decide

theorem ld_rows32 (x : Vec F S256x3072 .bf16) (g : Fin 8) (inb) :
    View.ld x (Rect.unit ![32 * g.val, 0] S32x3072.size inb) = rows32 x g := by
  funext j
  refine congrArg x (funext fun a => Fin.ext ?_)
  fin_cases a
  · show 32 * g.val + 1 * (j 0).val = 32 * g.val + (j 0).val
    omega
  · show 0 + 1 * (j 1).val = (j 1).val
    omega

theorem codesV_at (x : Vec F S256x3072 .bf16) (w : Vec F S1x3072 .f32) (g : Fin 8) (r : Fin 32) (l : Fin 3072) (j : S256x3072.Idx)
    (h0 : (j 0).val = 32 * g.val + r.val) (h1 : (j 1).val = l.val) : codesV x w j = codes32 (rows32 x g) w (ix2 r l) := by
  have hr := r.isLt
  have e1 : (⟨(j 0).val / 32, by have h : (j 0).val < 256 := (j 0).isLt; omega⟩ : Fin 8) = g :=
    Fin.ext (by show (j 0).val / 32 = g.val; omega)
  have e2 : (⟨(j 0).val % 32, by omega⟩ : Fin 32) = r := Fin.ext (by show (j 0).val % 32 = r.val; omega)
  have e3 : (⟨(j 1).val, (j 1).isLt⟩ : Fin 3072) = l := Fin.ext h1
  show codes32 (rows32 x ⟨(j 0).val / 32, _⟩) w (ix2 (⟨(j 0).val % 32, _⟩ : Fin 32) (⟨(j 1).val, (j 1).isLt⟩ : Fin 3072)) = _
  rw [e1, e2, e3]

/-- A store of the codes of `32` rows holds the block's codes there. -/
theorem piece_codes (g : Fin 8) (o : ℕ) (ho : o = 32 * g.val) (x0 : Vec F S256x3072 .bf16) (x1 : Vec F S1x3072 .f32) (inb)
    (pay : FVec F S32x3072 .fp8e4m3)
    (hpay : pay = codes32 (View.ld x0 (Rect.unit ![o, 0] S32x3072.size (inb_rows g o ho))) (View.ld x1 (Rect.unit ![0, 0] S1x3072.size inb_w))) :
    ∀ y, pay y = codesV x0 x1 ((Rect.unit (s := S256x3072) ![o, 0] S32x3072.size inb).emb y) := by
  intro y
  subst ho hpay
  rw [View.ld_unit_zero (S := S1x3072) (by funext a; fin_cases a <;> rfl), ld_rows32 x0 g]
  rw [codesV_at x0 x1 g (⟨(y 0).val, (y 0).isLt⟩ : Fin 32) (⟨(y 1).val, (y 1).isLt⟩ : Fin 3072) _
    (by show 32 * g.val + 1 * (y 0).val = 32 * g.val + (y 0).val; omega) (by show 0 + 1 * (y 1).val = (y 1).val; omega)]
  exact congrArg _ (funext fun a => by fin_cases a <;> rfl)

theorem scaleV_at (x : Vec F S256x3072 .bf16) (w : Vec F S1x3072 .f32) (g : Fin 8) (r : Fin 32) (l : Fin 128) (j : S256x128.Idx)
    (h0 : (j 0).val = 32 * g.val + r.val) (h1 : (j 1).val = l.val) : scaleV x w j = scale32 (rows32 x g) w (ix2 r l) := by
  have hr := r.isLt
  have e1 : (⟨(j 0).val / 32, by have h : (j 0).val < 256 := (j 0).isLt; omega⟩ : Fin 8) = g :=
    Fin.ext (by show (j 0).val / 32 = g.val; omega)
  have e2 : (⟨(j 0).val % 32, by omega⟩ : Fin 32) = r := Fin.ext (by show (j 0).val % 32 = r.val; omega)
  have e3 : (⟨(j 1).val, (j 1).isLt⟩ : Fin 128) = l := Fin.ext h1
  show scale32 (rows32 x ⟨(j 0).val / 32, _⟩) w (ix2 (⟨(j 0).val % 32, _⟩ : Fin 32) (⟨(j 1).val, (j 1).isLt⟩ : Fin 128)) = _
  rw [e1, e2, e3]

/-- A store of the scales of `32` rows holds the block's scales there. -/
theorem piece_scale (g : Fin 8) (o : ℕ) (ho : o = 32 * g.val) (x0 : Vec F S256x3072 .bf16) (x1 : Vec F S1x3072 .f32) (inb)
    (pay : FVec F S32x128 .f32)
    (hpay : pay = scale32 (View.ld x0 (Rect.unit ![o, 0] S32x3072.size (inb_rows g o ho))) (View.ld x1 (Rect.unit ![0, 0] S1x3072.size inb_w))) :
    ∀ y, pay y = scaleV x0 x1 ((Rect.unit (s := S256x128) ![o, 0] S32x128.size inb).emb y) := by
  intro y
  subst ho hpay
  rw [View.ld_unit_zero (S := S1x3072) (by funext a; fin_cases a <;> rfl), ld_rows32 x0 g]
  rw [scaleV_at x0 x1 g (⟨(y 0).val, (y 0).isLt⟩ : Fin 32) (⟨(y 1).val, (y 1).isLt⟩ : Fin 128) _
    (by show 32 * g.val + 1 * (y 0).val = 32 * g.val + (y 0).val; omega) (by show 0 + 1 * (y 1).val = (y 1).val; omega)]
  exact congrArg _ (funext fun a => by fin_cases a <;> rfl)

theorem inb_slab (P : ℕ) (hP : P < 32) : ∀ a, (![0, 512 * (P / 2)] : Fin 2 → ℕ) a + S3072x512.size a ≤ S3072x8192.size a := by
  intro a
  fin_cases a
  · exact le_refl 3072
  · show 512 * (P / 2) + 512 ≤ 8192
    omega

theorem inb_ws (P e : ℕ) (hP : P < 32) (he : e < 2) :
    ∀ a, (![0, 256 * P + 128 * e] : Fin 2 → ℕ) a + S1x128.size a ≤ S1x8192.size a := by
  intro a
  fin_cases a
  · exact le_refl 1
  · show 256 * P + 128 * e + 128 ≤ 8192
    omega

theorem slices_head (P e : ℕ) (he : e < 2) : S256x512.Slices ![0, 256 * (P % 2) + 128 * e] S256x128 := by
  refine ⟨rfl, ?_⟩
  intro a
  fin_cases a
  · exact le_refl 256
  · show 256 * (P % 2) + 128 * e + 128 ≤ 512
    omega

/-- Head `e` of pair `P` of the projection, rescaled. -/
def headY (P e : ℕ) (hP : P < 32) (he : e < 2) (C : Vec F S256x3072 .fp8e4m3) (sc : Vec F S256x128 .f32)
    (x2 : Vec F S3072x8192 .fp8e4m3) (x3 : Vec F S1x8192 .f32) : FVec F S256x128 .f32 :=
  mulf (mulf (extractStridedSlice S256x128 ![0, 256 * (P % 2) + 128 * e]
      (k0_pay56 C (View.ld x2 (Rect.unit ![0, 512 * (P / 2)] S3072x512.size (inb_slab P hP)))) (slices_head P e he)) sc)
    (broadcastTo S256x128 (shapeCast S1x128 (View.ld x3 (Rect.unit ![0, 256 * P + 128 * e] S1x128.size (inb_ws P e hP he)))
      shapeCasts_S1x128_S1x128) broadcasts_S1x128_S256x128)

/-- Two heads to one block of row pairs, at the narrow type. -/
def pairOf (lo hi : FVec F S256x128 .f32) : FVec F S256x2x128 .bf16 :=
  interleaveRows S256x2x128 (shapeCast S256x1x128 (truncf .bf16 lo bitsLt_bf16_f32) shapeCasts_S256x128_S256x1x128)
    (shapeCast S256x1x128 (truncf .bf16 hi bitsLt_bf16_f32) shapeCasts_S256x128_S256x1x128) bitcasts_S256x2x128_w16_S256x1x128_w32

/-- A head over the root of its mean square, times the norm's weight. -/
def headN (y : FVec F S256x128 .f32) (nw : Vec F S1x128 .f32) : FVec F S256x128 .f32 :=
  mulf (mulf y (broadcastTo S256x128 (rsqrt (addf (divf (shapeCast S256x1
      (multiReduction .add [1] S256 (mulf y y) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 nw shapeCasts_S1x128_S1x128) broadcasts_S1x128_S256x128)

/-- The row pair the body stores for pair `P` of normed heads. -/
def pairN (P : ℕ) (hP : P < 32) (C : Vec F S256x3072 .fp8e4m3) (sc : Vec F S256x128 .f32)
    (x2 : Vec F S3072x8192 .fp8e4m3) (x3 : Vec F S1x8192 .f32) (nw : Vec F S1x128 .f32) : Vec F S256x2x128 .bf16 :=
  pairOf (headN (headY P 0 hP (by decide) C sc x2 x3) nw) (headN (headY P 1 hP (by decide) C sc x2 x3) nw)

/-- The row pair the body stores for pair `P` of plain heads. -/
def pairY (P : ℕ) (hP : P < 32) (C : Vec F S256x3072 .fp8e4m3) (sc : Vec F S256x128 .f32)
    (x2 : Vec F S3072x8192 .fp8e4m3) (x3 : Vec F S1x8192 .f32) : Vec F S256x2x128 .bf16 :=
  pairOf (headY P 0 hP (by decide) C sc x2 x3) (headY P 1 hP (by decide) C sc x2 x3)

/-- The norm's weight as the body loads it. -/
def nwOf (x : Vec F S1x128 .f32) : Vec F S1x128 .f32 :=
  View.ld x (Rect.unit ![0, 0] S1x128.size inb_S1x128_S1x128_0_0)

/-- What a point leaves in the first output's block. -/
def qV (C : Vec F S256x3072 .fp8e4m3) (sc : Vec F S256x128 .f32) (x2 : Vec F S3072x8192 .fp8e4m3) (x3 : Vec F S1x8192 .f32)
    (x4 : Vec F S1x128 .f32) : Vec F S12288x128 .bf16 :=
  fun j => pairN ((j 0).val / 2 % 24) (by omega) C sc x2 x3 (nwOf x4)
    (ix3 (⟨(j 0).val / 48, by have h : (j 0).val < 12288 := (j 0).isLt; omega⟩ : Fin 256)
      (⟨(j 0).val % 2, by omega⟩ : Fin 2) (⟨(j 1).val, (j 1).isLt⟩ : Fin 128))

/-- What a point leaves in the second output's block. -/
def kV (C : Vec F S256x3072 .fp8e4m3) (sc : Vec F S256x128 .f32) (x2 : Vec F S3072x8192 .fp8e4m3) (x3 : Vec F S1x8192 .f32)
    (x5 : Vec F S1x128 .f32) : Vec F S2048x128 .bf16 :=
  fun j => pairN (24 + (j 0).val / 2 % 4) (by omega) C sc x2 x3 (nwOf x5)
    (ix3 (⟨(j 0).val / 8, by have h : (j 0).val < 2048 := (j 0).isLt; omega⟩ : Fin 256)
      (⟨(j 0).val % 2, by omega⟩ : Fin 2) (⟨(j 1).val, (j 1).isLt⟩ : Fin 128))

/-- What a point leaves in the third output's block. -/
def vV (C : Vec F S256x3072 .fp8e4m3) (sc : Vec F S256x128 .f32) (x2 : Vec F S3072x8192 .fp8e4m3) (x3 : Vec F S1x8192 .f32) :
    Vec F S2048x128 .bf16 :=
  fun j => pairY (28 + (j 0).val / 2 % 4) (by omega) C sc x2 x3
    (ix3 (⟨(j 0).val / 8, by have h : (j 0).val < 2048 := (j 0).isLt; omega⟩ : Fin 256)
      (⟨(j 0).val % 2, by omega⟩ : Fin 2) (⟨(j 1).val, (j 1).isLt⟩ : Fin 128))

section Steps
variable {κ : Kind} {sp : Space}

/-- One more row pair of the first output stored. -/
theorem stepQ (v : View sig κ sp S12288x128 .bf16) (h : S6144x2x128.numel = S12288x128.numel) (p : ℕ) (hp : p < 24) (inb) (hs)
    (f : v.ty.Contents (Elt F)) (w : S256x2x128.Idx → Elt F .bf16)
    (C : Vec F S256x3072 .fp8e4m3) (sc : Vec F S256x128 .f32) (x2 : Vec F S3072x8192 .fp8e4m3) (x3 : Vec F S1x8192 .f32)
    (x4 : Vec F S1x128 .f32) (hw : w = pairN p (by omega) C sc x2 x3 (nwOf x4))
    (hf : ∀ (i : Fin 12288) (l : Fin 128), i.val / 2 % 24 < p → v.read (Elt F) f (ix2 i l) = qV C sc x2 x3 x4 (ix2 i l)) :
    ∀ (i : Fin 12288) (l : Fin 128), i.val / 2 % 24 < p + 1 →
      v.read (Elt F) (((v.reshape S6144x2x128 h).slice ⟨⟨![p, 0, 0], S256x2x128.size, ![24, 1, 1], inb⟩, hs⟩).write (Elt F) f w
        Finset.univ) (ix2 i l) = qV C sc x2 x3 x4 (ix2 i l) := by
  intro i l hi
  rw [read_write_q v h p hp]
  by_cases hc : i.val / 2 % 24 = p
  · rw [if_pos hc, hw]
    subst hc
    rfl
  · rw [if_neg hc]
    exact hf i l (by omega)

/-- One more row pair of the second output stored. -/
theorem stepK (v : View sig κ sp S2048x128 .bf16) (h : S1024x2x128.numel = S2048x128.numel) (p : ℕ) (hp : p < 4) (inb) (hs)
    (f : v.ty.Contents (Elt F)) (w : S256x2x128.Idx → Elt F .bf16)
    (C : Vec F S256x3072 .fp8e4m3) (sc : Vec F S256x128 .f32) (x2 : Vec F S3072x8192 .fp8e4m3) (x3 : Vec F S1x8192 .f32)
    (x5 : Vec F S1x128 .f32) (hw : w = pairN (24 + p) (by omega) C sc x2 x3 (nwOf x5))
    (hf : ∀ (i : Fin 2048) (l : Fin 128), i.val / 2 % 4 < p → v.read (Elt F) f (ix2 i l) = kV C sc x2 x3 x5 (ix2 i l)) :
    ∀ (i : Fin 2048) (l : Fin 128), i.val / 2 % 4 < p + 1 →
      v.read (Elt F) (((v.reshape S1024x2x128 h).slice ⟨⟨![p, 0, 0], S256x2x128.size, ![4, 1, 1], inb⟩, hs⟩).write (Elt F) f w
        Finset.univ) (ix2 i l) = kV C sc x2 x3 x5 (ix2 i l) := by
  intro i l hi
  rw [read_write_kv v h p hp]
  by_cases hc : i.val / 2 % 4 = p
  · rw [if_pos hc, hw]
    subst hc
    rfl
  · rw [if_neg hc]
    exact hf i l (by omega)

/-- One more row pair of the third output stored. -/
theorem stepV (v : View sig κ sp S2048x128 .bf16) (h : S1024x2x128.numel = S2048x128.numel) (p : ℕ) (hp : p < 4) (inb) (hs)
    (f : v.ty.Contents (Elt F)) (w : S256x2x128.Idx → Elt F .bf16)
    (C : Vec F S256x3072 .fp8e4m3) (sc : Vec F S256x128 .f32) (x2 : Vec F S3072x8192 .fp8e4m3) (x3 : Vec F S1x8192 .f32)
    (hw : w = pairY (28 + p) (by omega) C sc x2 x3)
    (hf : ∀ (i : Fin 2048) (l : Fin 128), i.val / 2 % 4 < p → v.read (Elt F) f (ix2 i l) = vV C sc x2 x3 (ix2 i l)) :
    ∀ (i : Fin 2048) (l : Fin 128), i.val / 2 % 4 < p + 1 →
      v.read (Elt F) (((v.reshape S1024x2x128 h).slice ⟨⟨![p, 0, 0], S256x2x128.size, ![4, 1, 1], inb⟩, hs⟩).write (Elt F) f w
        Finset.univ) (ix2 i l) = vV C sc x2 x3 (ix2 i l) := by
  intro i l hi
  rw [read_write_kv v h p hp]
  by_cases hc : i.val / 2 % 4 = p
  · rw [if_pos hc, hw]
    subst hc
    rfl
  · rw [if_neg hc]
    exact hf i l (by omega)

end Steps

/-- A row of the scales' first lanes laid over the lanes: the sum over the diagonal of `128` rows. -/
def eyeRow (sc : Vec F S128x128 .f32) (l : Fin 128) : Elt F .f32 := k0_pay52 sc (ix2 (0 : Fin 1) l)

theorem inb_half (a : ℕ) (ha : a < 2) : ∀ d, (![128 * a, 0] : Fin 2 → ℕ) d + S128x128.size d ≤ S256x128.size d := by
  intro d
  fin_cases d
  · show 128 * a + 128 ≤ 256
    omega
  · exact le_refl 128

/-- What a point leaves of the contents `d` of the last output's block. -/
def hsV (i : ℕ) (sc : Vec F S256x128 .f32) (d : Vec F S12x2048 .f32) : Vec F S12x2048 .f32 :=
  fun j => if (j 1).val / 256 = i % 8 ∧ (j 0).val = i / 8 then
      eyeRow (View.ld sc (Rect.unit ![128 * ((j 1).val / 128 % 2), 0] S128x128.size (inb_half _ (by omega))))
        ⟨(j 1).val % 128, by omega⟩
    else if i = 0 then Scalar.ofBits .f32 0x00000000#32 else d j

/-- The read-modify-write of one group of `128` columns, at an index: the diagonal in the batch's row, the old contents elsewhere. -/
theorem pay54_at (n : Fin 96) (s : Vec F S128x128 .f32) (d : Vec F S12x128 .f32) (r : Fin 12) (l : Fin 128) :
    k0_pay54 (k0_pay52 s) (k0_pay53 (BitVec.ofNat 32 n.val)) d (ix2 r l)
      = if r.val = n.val / 8 then eyeRow s l else d (ix2 r l) := by
  have hd : ∀ (n : Fin 96) (r : Fin 12), IntOp.cmpi .eq (BitVec.ofNat 32 r.val) (Scalar.divsi (BitVec.ofNat 32 n.val) 8#32)
      = if r.val = n.val / 8 then 1#1 else 0#1 := by decide
  unfold eyeRow
  generalize k0_pay52 s = a
  pointwise [k0_pay54, k0_pay53]
  rw [hd]
  by_cases h : r.val = n.val / 8
  · rw [if_pos h, if_pos h]; rfl
  · rw [if_neg h, if_neg h]; rfl

theorem off_at (i : grid0.Coords) (b : Fin 2) : k0_off1 i (BitVec.ofNat 32 (128 * b.val)) = ![0, 256 * ((i 0).val % 8) + 128 * b.val] := by
  have hd : ∀ (n : Fin 96) (b : Fin 2), (Scalar.indexCast (Scalar.addi (Scalar.muli (Scalar.remsi (BitVec.ofNat 32 n.val) 8#32) 256#32)
      (BitVec.ofNat 32 (128 * b.val)))).toNat = 256 * (n.val % 8) + 128 * b.val := by decide
  unfold k0_off1
  exact congrArg (fun z => ![0, z]) (hd (i 0) b)

/-- The zeros of the first grid point, then the two column groups' stores over them. -/
theorem hs_zero {κ : Kind} {sp : Space} (v : View sig κ sp S12x2048 .f32) (n : Fin 96) (c : BitVec 1)
    (hc : c = Scalar.cmpi CmpIPredicate.ne ((Scalar.cmpi .eq (BitVec.ofNat 32 n.val) 0#32).setWidth 32) 0#32) (inb)
    (f : v.ty.Contents (Elt F)) :
    v.read (Elt F) (if h : c = 1#1 then v.writes (Elt F) f [⟨Rect.unit (s := S12x2048) ![0, 0] S12x2048.size inb, k0_pay50⟩] else f)
      = fun j => if n.val = 0 then Scalar.ofBits .f32 0x00000000#32 else v.read (Elt F) f j := by
  have hd : ∀ n : Fin 96, (Scalar.cmpi CmpIPredicate.ne ((Scalar.cmpi .eq (BitVec.ofNat 32 n.val) 0#32).setWidth 32) 0#32 = 1#1)
      ↔ n.val = 0 := by decide
  have hd' : c = 1#1 ↔ n.val = 0 := by rw [hc]; exact hd n
  funext j
  by_cases h : n.val = 0
  · rw [dif_pos (hd'.mpr h), if_pos h]
    exact (View.read_writes_cons_unit_of_mem v f inb (k0_pay50 (F := F)) [] j j rfl (fun a => by
      fin_cases a
      · show (j 0).val = 0 + (j 0).val
        omega
      · show (j 1).val = 0 + (j 1).val
        omega)).trans rfl
  · rw [dif_neg (fun h' => h (hd'.mp h')), if_neg h]

/-- What the two column groups' stores leave. -/
theorem hs_read {κ : Kind} {sp : Space} (v : View sig κ sp S12x2048 .f32) (n : Fin 96) (o0 o1 : Fin 2 → ℕ) (inb0 inb1)
    (h0 : o0 = ![0, 256 * (n.val % 8) + 128 * (0 : Fin 2).val]) (h1 : o1 = ![0, 256 * (n.val % 8) + 128 * (1 : Fin 2).val])
    (sc : Vec F S256x128 .f32) (d : Vec F S12x2048 .f32) (g : v.ty.Contents (Elt F))
    (hg : v.read (Elt F) g = fun j => if n.val = 0 then Scalar.ofBits .f32 0x00000000#32 else d j)
    (sc0 sc1 : Vec F S128x128 .f32) (hs0 : sc0 = View.ld sc (Rect.unit ![128 * 0, 0] S128x128.size (inb_half 0 (by decide))))
    (hs1 : sc1 = View.ld sc (Rect.unit ![128 * 1, 0] S128x128.size (inb_half 1 (by decide))))
    (p0 p1 : Vec F S12x128 .f32)
    (hp0 : p0 = k0_pay54 (k0_pay52 sc0) (k0_pay53 (BitVec.ofNat 32 n.val)) (v.readAt (Elt F) (Rect.unit (s := S12x2048) o0 S12x128.size inb0).toLoadRect g))
    (hp1 : p1 = k0_pay54 (k0_pay52 sc1) (k0_pay53 (BitVec.ofNat 32 n.val)) (v.readAt (Elt F) (Rect.unit (s := S12x2048) o1 S12x128.size inb1).toLoadRect g)) :
    v.read (Elt F) (v.writes (Elt F) g [⟨Rect.unit (s := S12x2048) o1 S12x128.size inb1, p1⟩, ⟨Rect.unit (s := S12x2048) o0 S12x128.size inb0, p0⟩])
      = hsV n.val sc d := by
  subst hp0 hp1 hs0 hs1
  funext j
  obtain ⟨r, c, rfl⟩ : ∃ (a : Fin 12) (b : Fin 2048), j = ix2 a b :=
    ⟨⟨(j 0).val, (j 0).isLt⟩, ⟨(j 1).val, (j 1).isLt⟩, funext fun a => by fin_cases a <;> rfl⟩
  have hn := n.isLt
  have hc := c.isLt
  have main : ∀ (b : ℕ) (hb : b < 2) (o : Fin 2 → ℕ) (inb) (ho : o = ![0, 256 * (n.val % 8) + 128 * b])
      (hcb : c.val / 256 = n.val % 8 ∧ c.val / 128 % 2 = b) (sb : Vec F S128x128 .f32)
      (hsb : sb = View.ld sc (Rect.unit ![128 * b, 0] S128x128.size (inb_half b hb))),
      k0_pay54 (k0_pay52 sb) (k0_pay53 (BitVec.ofNat 32 n.val)) (v.readAt (Elt F) (Rect.unit (s := S12x2048) o S12x128.size inb).toLoadRect g)
        (ix2 r (⟨c.val % 128, by omega⟩ : Fin 128)) = hsV n.val sc d (ix2 r c) := by
    intro b hb o inb ho hcb sb hsb
    subst hsb ho
    obtain ⟨hc1, hc2⟩ := hcb
    subst hc2
    rw [pay54_at]
    unfold hsV
    by_cases hr : r.val = n.val / 8
    · rw [if_pos hr, if_pos ⟨hc1, hr⟩]
      rfl
    · rw [if_neg hr, if_neg (fun h => hr h.2)]
      rw [View.readAt_apply, hg]
      refine congrArg (fun z => if n.val = 0 then Scalar.ofBits .f32 0x00000000#32 else d z) (funext fun a => Fin.ext ?_)
      fin_cases a
      · show 0 + 1 * r.val = r.val
        omega
      · show 256 * (n.val % 8) + 128 * (c.val / 128 % 2) + 1 * (c.val % 128) = c.val
        omega
  by_cases hb1 : c.val / 256 = n.val % 8 ∧ c.val / 128 % 2 = 1
  · rw [View.read_writes_cons_unit_of_mem v g inb1 _ _ _ (ix2 r (⟨c.val % 128, by omega⟩ : Fin 128)) h1 (fun a => by
      fin_cases a
      · show r.val = 0 + r.val
        omega
      · show c.val = 256 * (n.val % 8) + 128 * 1 + c.val % 128
        omega)]
    exact main 1 (by decide) o1 inb1 h1 hb1 _ rfl
  · rw [View.read_writes_cons_unit_of_not_mem v g inb1 _ _ _ h1 (1 : Fin 2) (by
      show c.val < 256 * (n.val % 8) + 128 * 1 ∨ 256 * (n.val % 8) + 128 * 1 + 128 ≤ c.val
      omega)]
    by_cases hb0 : c.val / 256 = n.val % 8 ∧ c.val / 128 % 2 = 0
    · rw [View.read_writes_cons_unit_of_mem v g inb0 _ _ _ (ix2 r (⟨c.val % 128, by omega⟩ : Fin 128)) h0 (fun a => by
        fin_cases a
        · show r.val = 0 + r.val
          omega
        · show c.val = 256 * (n.val % 8) + 128 * 0 + c.val % 128
          omega)]
      exact main 0 (by decide) o0 inb0 h0 hb0 _ rfl
    · rw [View.read_writes_cons_unit_of_not_mem v g inb0 _ _ _ h0 (1 : Fin 2) (by
        show c.val < 256 * (n.val % 8) + 128 * 0 ∨ 256 * (n.val % 8) + 128 * 0 + 128 ≤ c.val
        omega)]
      show v.read (Elt F) g (ix2 r c) = _
      rw [hg]
      unfold hsV
      rw [if_neg (fun h => by
        have h1 : c.val / 256 = n.val % 8 := h.1
        omega)]

end Cert.KernelIdeal.Val

end
-- ==== Proof.ValueBody.lean ====
module

public import proofs.«01_k».proof.Proof.Gen.KernelIdeal.Frame
public import proofs.«01_k».proof.Proof.Gen.KernelIdeal.Skeleton
public import proofs.«01_k».proof.Proof.Vals

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

set_option maxHeartbeats 8000000 in
/-- The kernel body at any grid point, on whole staging memrefs, runs to its return: the inputs' memrefs keep their contents,
    the outputs' hold what the point computes of them. -/
theorem runV (c : Dev nD) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .vmem S3072x8192 .fp8e4m3) (harg3 : arg3.IsWhole) (arg4 : Memref sig .tc .vmem S1x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S12288x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x3072 .fp8e4m3) (harg10 : arg10.IsWhole) (arg11 : Memref sig .tc .vmem S12x2048 .f32) (harg11 : arg11.IsWhole) (arg12 : Memref sig .tc .vmem S256x128 .f32) (harg12 : arg12.IsWhole)
    (x0 : Vec F S256x3072 .bf16) (x1 : Vec F S1x3072 .f32) (x2 : Vec F S3072x8192 .fp8e4m3) (x3 : Vec F S1x8192 .f32) (x4 : Vec F S1x128 .f32) (x5 : Vec F S1x128 .f32) (d10 : Vec F S12x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (qV (codesV x0 x1) (scaleV x0 x1) x2 x3 x4) ∗ owns (c : Thread nD τ) arg8 fullShare (kV (codesV x0 x1) (scaleV x0 x1) x2 x3 x5) ∗ owns (c : Thread nD τ) arg9 fullShare (vV (codesV x0 x1) (scaleV x0 x1) x2 x3) ∗ owns (c : Thread nD τ) arg10 fullShare (codesV x0 x1) ∗ owns (c : Thread nD τ) arg11 fullShare (hsV (i 0).val (scaleV x0 x1) d10) ∗ (∃ d, owns (c : Thread nD τ) arg12 fullShare d)) -∗ K ⟨⟩))
      ⊢ wp frame (wpE (defs₀ (F := F)) Variants.none c none) E (cc0_qkv_fused i arg1 harg1 arg2 harg2 arg3 harg3 arg4 harg4 arg5 harg5 arg6 harg6 arg7 harg7 arg8 harg8 arg9 harg9 arg10 harg10 arg11 harg11 arg12 harg12) K := by
  simp only [cc0_qkv_fused_eq_skeleton]; unfold cc0_qkv_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  simp only [harg7.set_eq_univ, harg8.set_eq_univ, harg9.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%d11, %f11, -, H11⟩, Hk⟩
  subst hf0 hf1 hf2 hf3 hf4 hf5 hf10
  sl_exec
  sl_step
  have cov9 : ∀ y, ∃ p ∈ runV.sl.H9_8 arg1 arg2 f0 f1, y ∈ p.1.set := by
    exact fun y => View.cover_of_tiled (runV.sl.H9_8 arg1 arg2 f0 f1) ![32, 3072] (by rfl) y
  have cov11 : ∀ y, ∃ p ∈ runV.sl.H11_8 arg1 arg2 f0 f1, y ∈ p.1.set := by
    exact fun y => View.cover_of_tiled (runV.sl.H11_8 arg1 arg2 f0 f1) ![32, 128] (by rfl) y
  have pc_codes : ∀ p ∈ runV.sl.H9_8 arg1 arg2 f0 f1, ∀ y, p.2 y = codesV (View.read (Elt F) arg1.view f0) (View.read (Elt F) arg2.view f1) (p.1.emb y) := by
    refine List.forall_mem_cons.mpr ⟨piece_codes 7 _ rfl (View.read (Elt F) arg1.view f0) (View.read (Elt F) arg2.view f1) (inb_rows 7 _ rfl) _ rfl, ?_⟩
    refine List.forall_mem_cons.mpr ⟨piece_codes 6 _ rfl (View.read (Elt F) arg1.view f0) (View.read (Elt F) arg2.view f1) (inb_rows 6 _ rfl) _ rfl, ?_⟩
    refine List.forall_mem_cons.mpr ⟨piece_codes 5 _ rfl (View.read (Elt F) arg1.view f0) (View.read (Elt F) arg2.view f1) (inb_rows 5 _ rfl) _ rfl, ?_⟩
    refine List.forall_mem_cons.mpr ⟨piece_codes 4 _ rfl (View.read (Elt F) arg1.view f0) (View.read (Elt F) arg2.view f1) (inb_rows 4 _ rfl) _ rfl, ?_⟩
    refine List.forall_mem_cons.mpr ⟨piece_codes 3 _ rfl (View.read (Elt F) arg1.view f0) (View.read (Elt F) arg2.view f1) (inb_rows 3 _ rfl) _ rfl, ?_⟩
    refine List.forall_mem_cons.mpr ⟨piece_codes 2 _ rfl (View.read (Elt F) arg1.view f0) (View.read (Elt F) arg2.view f1) (inb_rows 2 _ rfl) _ rfl, ?_⟩
    refine List.forall_mem_cons.mpr ⟨piece_codes 1 _ rfl (View.read (Elt F) arg1.view f0) (View.read (Elt F) arg2.view f1) (inb_rows 1 _ rfl) _ rfl, ?_⟩
    refine List.forall_mem_cons.mpr ⟨piece_codes 0 _ rfl (View.read (Elt F) arg1.view f0) (View.read (Elt F) arg2.view f1) (inb_rows 0 _ rfl) _ rfl, ?_⟩
    exact fun _ h => absurd h List.not_mem_nil
  have pc_scale : ∀ p ∈ runV.sl.H11_8 arg1 arg2 f0 f1, ∀ y, p.2 y = scaleV (View.read (Elt F) arg1.view f0) (View.read (Elt F) arg2.view f1) (p.1.emb y) := by
    refine List.forall_mem_cons.mpr ⟨piece_scale 7 _ rfl (View.read (Elt F) arg1.view f0) (View.read (Elt F) arg2.view f1) (inb_srows 7 _ rfl) _ rfl, ?_⟩
    refine List.forall_mem_cons.mpr ⟨piece_scale 6 _ rfl (View.read (Elt F) arg1.view f0) (View.read (Elt F) arg2.view f1) (inb_srows 6 _ rfl) _ rfl, ?_⟩
    refine List.forall_mem_cons.mpr ⟨piece_scale 5 _ rfl (View.read (Elt F) arg1.view f0) (View.read (Elt F) arg2.view f1) (inb_srows 5 _ rfl) _ rfl, ?_⟩
    refine List.forall_mem_cons.mpr ⟨piece_scale 4 _ rfl (View.read (Elt F) arg1.view f0) (View.read (Elt F) arg2.view f1) (inb_srows 4 _ rfl) _ rfl, ?_⟩
    refine List.forall_mem_cons.mpr ⟨piece_scale 3 _ rfl (View.read (Elt F) arg1.view f0) (View.read (Elt F) arg2.view f1) (inb_srows 3 _ rfl) _ rfl, ?_⟩
    refine List.forall_mem_cons.mpr ⟨piece_scale 2 _ rfl (View.read (Elt F) arg1.view f0) (View.read (Elt F) arg2.view f1) (inb_srows 2 _ rfl) _ rfl, ?_⟩
    refine List.forall_mem_cons.mpr ⟨piece_scale 1 _ rfl (View.read (Elt F) arg1.view f0) (View.read (Elt F) arg2.view f1) (inb_srows 1 _ rfl) _ rfl, ?_⟩
    refine List.forall_mem_cons.mpr ⟨piece_scale 0 _ rfl (View.read (Elt F) arg1.view f0) (View.read (Elt F) arg2.view f1) (inb_srows 0 _ rfl) _ rfl, ?_⟩
    exact fun _ h => absurd h List.not_mem_nil
  have hcan9 : View.canon (runV.sl.H9_8 arg1 arg2 f0 f1) = codesV (View.read (Elt F) arg1.view f0) (View.read (Elt F) arg2.view f1) :=
    funext fun y => View.canon_apply_of_pieces _ _ pc_codes y (cov9 y)
  have hcan11 : View.canon (runV.sl.H11_8 arg1 arg2 f0 f1) = scaleV (View.read (Elt F) arg1.view f0) (View.read (Elt F) arg2.view f1) :=
    funext fun y => View.canon_apply_of_pieces _ _ pc_scale y (cov11 y)
  have h525 : runV.sl.v525 arg1 arg2 arg10 f0 f1 = codesV (View.read (Elt F) arg1.view f0) (View.read (Elt F) arg2.view f1) := by
    refine (View.readCov_eq_canon_ld _ _ _ cov9).trans ?_
    rw [hcan9]
    exact View.ld_unit_zero (S := S256x3072) (by funext a; fin_cases a <;> rfl) _ _
  have h530 : runV.sl.v530 arg1 arg2 arg12 f0 f1 = scaleV (View.read (Elt F) arg1.view f0) (View.read (Elt F) arg2.view f1) := by
    refine (View.readCov_eq_canon_ld _ _ _ cov11).trans ?_
    rw [hcan11]
    exact View.ld_unit_zero (S := S256x128) (by funext a; fin_cases a <;> rfl) _ _
  have h489 : runV.sl.v489 arg1 arg2 arg12 f0 f1
      = View.ld (scaleV (View.read (Elt F) arg1.view f0) (View.read (Elt F) arg2.view f1)) (Rect.unit ![128 * 0, 0] S128x128.size (inb_half 0 (by decide))) := by
    refine (View.readCov_eq_canon_ld _ _ _ cov11).trans ?_
    rw [hcan11]
  have h507 : runV.sl.v507 arg1 arg2 arg12 f0 f1
      = View.ld (scaleV (View.read (Elt F) arg1.view f0) (View.read (Elt F) arg2.view f1)) (Rect.unit ![128 * 1, 0] S128x128.size (inb_half 1 (by decide))) := by
    refine (View.readCov_eq_canon_ld _ _ _ cov11).trans ?_
    rw [hcan11]
  have hq : View.read (Elt F) arg7.view (runV.sl.H6_w24 arg1 arg2 arg3 arg4 arg5 arg7 harg7 arg10 arg12 f0 f1 f2 f3 f4 f6) = qV (codesV (View.read (Elt F) arg1.view f0) (View.read (Elt F) arg2.view f1)) (scaleV (View.read (Elt F) arg1.view f0) (View.read (Elt F) arg2.view f1)) (View.read (Elt F) arg3.view f2) (View.read (Elt F) arg4.view f3) (View.read (Elt F) arg5.view f4) := by
    rw [← h525, ← h530]
    refine funext fun j => ?_
    obtain ⟨j0, j1, rfl⟩ : ∃ (a : Fin 12288) (b : Fin 128), j = ix2 a b := ⟨⟨(j 0).val, (j 0).isLt⟩, ⟨(j 1).val, (j 1).isLt⟩, funext fun a => by fin_cases a <;> rfl⟩
    refine stepQ arg7.view (by decide) 23 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_ j0 j1 (by omega)
    refine stepQ arg7.view (by decide) 22 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 21 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 20 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 19 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 18 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 17 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 16 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 15 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 14 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 13 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 12 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 11 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 10 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 9 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 8 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 7 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 6 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 5 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 4 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 3 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 2 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 1 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    refine stepQ arg7.view (by decide) 0 (by decide) _ _ _ _ (runV.sl.v525 arg1 arg2 arg10 f0 f1) (runV.sl.v530 arg1 arg2 arg12 f0 f1) (View.read (Elt F) arg3.view f2) (View.read (Elt F) arg4.view f3) (View.read (Elt F) arg5.view f4) rfl ?_
    exact fun _ _ h => absurd h (Nat.not_lt_zero _)
  have hk : View.read (Elt F) arg8.view (runV.sl.H7_w28 arg1 arg2 arg3 arg4 arg6 arg8 harg8 arg10 arg12 f0 f1 f2 f3 f5 f7) = kV (codesV (View.read (Elt F) arg1.view f0) (View.read (Elt F) arg2.view f1)) (scaleV (View.read (Elt F) arg1.view f0) (View.read (Elt F) arg2.view f1)) (View.read (Elt F) arg3.view f2) (View.read (Elt F) arg4.view f3) (View.read (Elt F) arg6.view f5) := by
    rw [← h525, ← h530]
    refine funext fun j => ?_
    obtain ⟨j0, j1, rfl⟩ : ∃ (a : Fin 2048) (b : Fin 128), j = ix2 a b := ⟨⟨(j 0).val, (j 0).isLt⟩, ⟨(j 1).val, (j 1).isLt⟩, funext fun a => by fin_cases a <;> rfl⟩
    refine stepK arg8.view (by decide) 3 (by decide) _ _ _ _ (runV.sl.v525 arg1 arg2 arg10 f0 f1) (runV.sl.v530 arg1 arg2 arg12 f0 f1) (View.read (Elt F) arg3.view f2) (View.read (Elt F) arg4.view f3) (View.read (Elt F) arg6.view f5) rfl ?_ j0 j1 (by omega)
    refine stepK arg8.view (by decide) 2 (by decide) _ _ _ _ (runV.sl.v525 arg1 arg2 arg10 f0 f1) (runV.sl.v530 arg1 arg2 arg12 f0 f1) (View.read (Elt F) arg3.view f2) (View.read (Elt F) arg4.view f3) (View.read (Elt F) arg6.view f5) rfl ?_
    refine stepK arg8.view (by decide) 1 (by decide) _ _ _ _ (runV.sl.v525 arg1 arg2 arg10 f0 f1) (runV.sl.v530 arg1 arg2 arg12 f0 f1) (View.read (Elt F) arg3.view f2) (View.read (Elt F) arg4.view f3) (View.read (Elt F) arg6.view f5) rfl ?_
    refine stepK arg8.view (by decide) 0 (by decide) _ _ _ _ (runV.sl.v525 arg1 arg2 arg10 f0 f1) (runV.sl.v530 arg1 arg2 arg12 f0 f1) (View.read (Elt F) arg3.view f2) (View.read (Elt F) arg4.view f3) (View.read (Elt F) arg6.view f5) rfl ?_
    exact fun _ _ h => absurd h (Nat.not_lt_zero _)
  have hv : View.read (Elt F) arg9.view (runV.sl.H8_w32 arg1 arg2 arg3 arg4 arg9 harg9 arg10 arg12 f0 f1 f2 f3 f8) = vV (codesV (View.read (Elt F) arg1.view f0) (View.read (Elt F) arg2.view f1)) (scaleV (View.read (Elt F) arg1.view f0) (View.read (Elt F) arg2.view f1)) (View.read (Elt F) arg3.view f2) (View.read (Elt F) arg4.view f3) := by
    rw [← h525, ← h530]
    refine funext fun j => ?_
    obtain ⟨j0, j1, rfl⟩ : ∃ (a : Fin 2048) (b : Fin 128), j = ix2 a b := ⟨⟨(j 0).val, (j 0).isLt⟩, ⟨(j 1).val, (j 1).isLt⟩, funext fun a => by fin_cases a <;> rfl⟩
    refine stepV arg9.view (by decide) 3 (by decide) _ _ _ _ (runV.sl.v525 arg1 arg2 arg10 f0 f1) (runV.sl.v530 arg1 arg2 arg12 f0 f1) (View.read (Elt F) arg3.view f2) (View.read (Elt F) arg4.view f3) rfl ?_ j0 j1 (by omega)
    refine stepV arg9.view (by decide) 2 (by decide) _ _ _ _ (runV.sl.v525 arg1 arg2 arg10 f0 f1) (runV.sl.v530 arg1 arg2 arg12 f0 f1) (View.read (Elt F) arg3.view f2) (View.read (Elt F) arg4.view f3) rfl ?_
    refine stepV arg9.view (by decide) 1 (by decide) _ _ _ _ (runV.sl.v525 arg1 arg2 arg10 f0 f1) (runV.sl.v530 arg1 arg2 arg12 f0 f1) (View.read (Elt F) arg3.view f2) (View.read (Elt F) arg4.view f3) rfl ?_
    refine stepV arg9.view (by decide) 0 (by decide) _ _ _ _ (runV.sl.v525 arg1 arg2 arg10 f0 f1) (runV.sl.v530 arg1 arg2 arg12 f0 f1) (View.read (Elt F) arg3.view f2) (View.read (Elt F) arg4.view f3) rfl ?_
    exact fun _ _ h => absurd h (Nat.not_lt_zero _)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact hq
  isplitl [H7]
  · iexists _; isplitr; swap; · iexact H7
    ipureintro; exact hk
  isplitl [H8]
  · iexists _; isplitr; swap; · iexact H8
    ipureintro; exact hv
  isplitl [H9]
  · iexists _; isplitr; swap; · iexact H9
    ipureintro; exact (View.read_writes_eq_canon _ _ _ cov9).trans hcan9
  isplitl [H10]
  · iexists _; isplitr; swap; · iexact H10
    ipureintro
    exact hs_read arg11.view (i 0) _ _ (k0_off1_inb i 0) (k0_off1_inb i 1) (off_at i 0) (off_at i 1) (scaleV (View.read (Elt F) arg1.view f0) (View.read (Elt F) arg2.view f1))
      (View.read (Elt F) arg11.view f10) _ (hs_zero arg11.view (i 0) _ rfl _ f10) _ _ h489 h507 _ _ rfl rfl
  iexists _, _; isplitr; swap; · iexact H11
  ipureintro; rfl

end Cert.KernelIdeal.Val

end
-- ==== Proof.ValueFrame.lean ====
module

public import proofs.«01_k».proof.Proof.Gen.KernelIdeal.Frame
public import proofs.«01_k».proof.Proof.Gen.KernelIdeal.Points
public import proofs.«01_k».proof.Proof.ValueBody

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! The kernel's run, every result named: the proof data whose outputs are what the points compute. -/

variable (m : (ℓ : Loc nD τ sig) → Buf (Elt F) ℓ) (ρ : Dev nD → PrngReg)

/-- The scratch, whole. -/
abbrev scM : Memref sig .tc .vmem S256x128 .f32 := Memref.whole cc0_scratch0

/-- The invariant between grid points: the scratch at some contents and the generator register at some state. -/
theorem PhiA0_eq (c : Dev nD) :
    (Pipeline.ΦA spec0 c : sProp 𝕄)
      = iprop((∃ d, owns (c : Thread nD τ) scM fullShare d) ∗ ∃ r, prngReg c r) := by
  unfold Pipeline.ΦA; rw [scopedRest0_eq]; simp only [scM, owns_whole]; try rfl

/-- The codes of the tokens of point `t`. -/
def codesAt (c : Dev nD) (t : Fin cfg0.N) : Vec F S256x3072 .fp8e4m3 := codesV (iblk m c 0 t) (iblk m c 1 t)

/-- The scales of the tokens of point `t`. -/
def scaleAt (c : Dev nD) (t : Fin cfg0.N) : Vec F S256x128 .f32 := scaleV (iblk m c 0 t) (iblk m c 1 t)

/-- The scale of token `s` of batch `b`, read off the diagonal of its group of `128` tokens. -/
def hsTok (c : Dev nD) (j : S12x2048.Idx) : Elt F .f32 :=
  eyeRow (View.ld (scaleAt m c ⟨8 * (j 0).val + (j 1).val / 256, by
      have h0 : (j 0).val < 12 := (j 0).isLt
      have h1 : (j 1).val < 2048 := (j 1).isLt
      show _ < grid0.N
      rw [N_0]; omega⟩)
    (Rect.unit ![128 * ((j 1).val / 128 % 2), 0] S128x128.size (inb_half _ (by omega)))) ⟨(j 1).val % 128, by omega⟩

/-- What the last output's block holds after point `n`: the scales of the tokens up to it, zero elsewhere. -/
def hsAt (c : Dev nD) (n : ℕ) : Vec F S12x2048 .f32 :=
  fun j => if 8 * (j 0).val + (j 1).val / 256 ≤ n then hsTok m c j else Scalar.ofBits .f32 0x00000000#32

/-- A point's update of the last output's block: from `hsAt` before to `hsAt` after; the first point from anything. -/
theorem hsV_hsAt (c : Dev nD) (t : Fin cfg0.N) (n : ℕ) (hn : n = t.val) (d : Vec F S12x2048 .f32)
    (hd : t.val ≠ 0 → d = hsAt m c (t.val - 1)) : hsV n (scaleAt m c t) d = hsAt m c t.val := by
  subst hn
  funext j
  have h0 : (j 0).val < 12 := (j 0).isLt
  have h1 : (j 1).val < 2048 := (j 1).isLt
  unfold hsV
  by_cases hc : (j 1).val / 256 = t.val % 8 ∧ (j 0).val = t.val / 8
  · rw [if_pos hc]
    have ht : 8 * (j 0).val + (j 1).val / 256 = t.val := by omega
    unfold hsAt
    rw [if_pos (le_of_eq ht)]
    unfold hsTok
    congr 3
    exact Fin.ext ht.symm
  · rw [if_neg hc]
    by_cases hz : t.val = 0
    · rw [if_pos hz]
      unfold hsAt
      rw [if_neg (by omega)]
    · rw [if_neg hz, hd hz]
      unfold hsAt
      by_cases hle : 8 * (j 0).val + (j 1).val / 256 ≤ t.val - 1
      · rw [if_pos hle, if_pos (by omega)]
      · rw [if_neg hle, if_neg (by omega)]

/-- The proof data on core `c`: the arrays as the region finds them; each input's buffer left at its block, each output's at
    what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qV (codesAt m c t) (scaleAt m c t) (iblk m c 2 t) (iblk m c 3 t) (iblk m c 4 t)
    | ⟨7, _⟩ => kV (codesAt m c t) (scaleAt m c t) (iblk m c 2 t) (iblk m c 3 t) (iblk m c 5 t)
    | ⟨8, _⟩ => vV (codesAt m c t) (scaleAt m c t) (iblk m c 2 t) (iblk m c 3 t)
    | ⟨9, _⟩ => codesAt m c t
    | ⟨10, _⟩ => hsAt m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = qV (codesAt m c t) (scaleAt m c t) (iblk m c 2 t) (iblk m c 3 t) (iblk m c 4 t) := rfl
theorem after0_7 (c : Dev nD) (t : Fin cfg0.N) : (dats m 0 c).after 7 t = kV (codesAt m c t) (scaleAt m c t) (iblk m c 2 t) (iblk m c 3 t) (iblk m c 5 t) := rfl
theorem after0_8 (c : Dev nD) (t : Fin cfg0.N) : (dats m 0 c).after 8 t = vV (codesAt m c t) (scaleAt m c t) (iblk m c 2 t) (iblk m c 3 t) := rfl
theorem after0_9 (c : Dev nD) (t : Fin cfg0.N) : (dats m 0 c).after 9 t = codesAt m c t := rfl
theorem after0_10 (c : Dev nD) (t : Fin cfg0.N) : (dats m 0 c).after 10 t = hsAt m c t.val := rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point the last output's buffer holds what the point before left. -/
theorem before0_10 (c : Dev nD) (t : Fin cfg0.N) (ht : t.val ≠ 0) (d) : (dats m 0 c).before 10 t d = hsAt m c (t.val - 1) := by
  have hlt : t.val < 96 := lt_of_lt_of_eq t.isLt N_0
  rw [Dat.before_of_pos _ 10 t ht rfl d, if_neg (fun h => by
    have h2 : (t.val - 1) % 96 = 95 := (flush0_10 _).mp h
    omega)]
  rfl

/-- The grid's one coordinate at a point is the point. -/
theorem coord0 : ∀ t : Fin grid0.N, ((grid0.coords t) 0).val = t.val := by decide +kernel

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runV c Set.univ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [← hsV_hsAt m c t ((grid0.coords t) 0).val (coord0 t) ((dats m 0 c).before 10 t d10) (fun ht => before0_10 m c t ht d10)]
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution terminates with every array at what the proof data computes. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Val

end
-- ==== Proof.KRows.lean ====
/- The kernel's payloads at an index, as functions of the token's row. -/
module

public import proofs.«01_k».proof.Proof.Rows
public import proofs.«01_k».proof.Proof.ValueFrame
public import Idealize.ShloMosaic.Lib.Pointwise
public import Idealize.ShloMosaic.Lib.IndicatorCount

@[expose] public section

noncomputable section

namespace Cert.KernelIdeal.Val

open Cert.KernelIdeal Cert.KernelIdeal.Gen Cert.Rows Idealize.ShloMosaic Idealize.ShloMosaic.TcCoe Idealize.SL.Sem
open scoped BigOperators

theorem pay2_at (x : Vec Ideal S32x3072 .bf16) (w : Vec Ideal S1x3072 .f32) (r : Fin 32) (l : Fin 3072) :
    k0_pay2 (F := Ideal) x w (ix2 r l) = hRow (fun k => x (ix2 r k)) (fun k => w (ix2 (0 : Fin 1) k)) l := by
  pointwise [k0_pay2, hRow]

theorem pay3_at (x : Vec Ideal S32x3072 .bf16) (w : Vec Ideal S1x3072 .f32) (r : Fin 32) :
    k0_pay3 (F := Ideal) x w (ix2 r (0 : Fin 1)) = bRow (vRow (hRow (fun k => x (ix2 r k)) (fun k => w (ix2 (0 : Fin 1) k)))) := by
  pointwise [k0_pay3]
  have hz : ∀ k : ℕ, IntOp.shli ArithUnit.vector (BitVec.ofNat 32 k) 23#32 = BitVec.ofNat 32 k <<< 23 := fun _ => rfl
  have hv : Finset.univ.fold max (Ideal.ofBits FTy.f32 4286578688#32) (fun k => FloatOps.absf (F := Ideal) (k0_pay2 (F := Ideal) x w (ix2 r k)))
      * Ideal.ofBits FTy.f32 991054117#32 = vRow (hRow (fun k => x (ix2 r k)) (fun k => w (ix2 (0 : Fin 1) k))) := by
    unfold vRow
    congr 2
    funext k
    rw [pay2_at]
    rfl
  rw [hv]
  simp only [hz]
  generalize vRow (hRow (fun k => x (ix2 r k)) (fun k => w (ix2 (0 : Fin 1) k))) = v
  have hc := IndicatorCount.fold_addi_setWidth_eq_card (w := 32)
    (fun k : Fin 256 => BitVec.ofBool (decide (v < Ideal.ofBits .f32 (BitVec.ofNat 32 k.val <<< 23)))) Finset.univ
  rw [hc]
  have hf : (Finset.univ.filter fun k : Fin 256 => BitVec.ofBool (decide (v < Ideal.ofBits .f32 (BitVec.ofNat 32 k.val <<< 23))) = 1#1)
      = Finset.univ.filter fun k : Fin 256 => v < Ideal.ofBits .f32 (BitVec.ofNat 32 k.val <<< 23) := by
    refine Finset.filter_congr fun k _ => ?_
    by_cases hk : v < Ideal.ofBits .f32 (BitVec.ofNat 32 k.val <<< 23)
    · simp [hk]
    · simp [hk]
  rw [hf]
  unfold bRow
  generalize BitVec.ofNat 32 (Finset.card _) = n
  show Scalar.select (IntOp.cmpi CmpIPredicate.eq (255#32 - n) (0#32)) (126#32) (255#32 - n) = if 255#32 - n = 0#32 then 126#32 else 255#32 - n
  by_cases h : 255#32 - n = 0#32
  · rw [if_pos h, h]
    rfl
  · rw [if_neg h]
    have hb : (255#32 - n == 0#32) = false := beq_eq_false_iff_ne.mpr h
    simp [Scalar.select, IntOp.cmpi, hb]

theorem pay5_at (h : FVec Ideal S32x3072 .f32) (b : IVec S32x1 32) (r : Fin 32) (l : Fin 3072) :
    k0_pay5 (F := Ideal) h b 253#32 (ix2 r l) = cRow (h (ix2 r l)) (Ideal.ofBits .f32 ((253#32 - b (ix2 r (0 : Fin 1))) <<< 23)) := by
  pointwise [k0_pay5, cRow]
  rfl

theorem scale32_at (x : Vec Ideal S32x3072 .bf16) (w : Vec Ideal S1x3072 .f32) (r : Fin 32) (l : Fin 128) :
    scale32 (F := Ideal) x w (ix2 r l) = Ideal.ofBits .f32 ((k0_pay3 (F := Ideal) x w (ix2 r (0 : Fin 1)) + 1#32) <<< 23) := by
  pointwise [scale32, k0_pay6, k0_pay4]
  rfl

theorem headN_at (y : FVec Ideal S256x128 .f32) (nw : Vec Ideal S1x128 .f32) (r : Fin 256) (l : Fin 128) :
    headN (F := Ideal) y nw (ix2 r l) = nRow (fun k => y (ix2 r k)) (fun k => nw (ix2 (0 : Fin 1) k)) l := by
  pointwise [headN, nRow]

theorem eyeRow_at (sc : Vec Ideal S128x128 .f32) (l : Fin 128) : eyeRow (F := Ideal) sc l = sc (ix2 l l) := by
  pointwise [eyeRow, k0_pay52, k0_pay51]
  rw [Finset.sum_eq_single l]
  · simp [Scalar.select, IntOp.cmpi]
  · intro k _ hk
    have : BitVec.ofNat 32 k.val ≠ BitVec.ofNat 32 l.val := by
      intro h
      have h2 := congrArg BitVec.toNat h
      simp only [BitVec.toNat_ofNat] at h2
      have := k.isLt
      have := l.isLt
      exact hk (Fin.ext (by omega))
    have hb : (BitVec.ofNat 32 k.val == BitVec.ofNat 32 l.val) = false := beq_eq_false_iff_ne.mpr this
    simp [Scalar.select, IntOp.cmpi, hb]
  · intro h
    exact absurd (Finset.mem_univ _) h

theorem pairOf_at (lo hi : FVec Ideal S256x128 .f32) (r : Fin 256) (e : Fin 2) (l : Fin 128) :
    pairOf (F := Ideal) lo hi (ix3 r e l) = if e.val = 0 then lo (ix2 r l) else hi (ix2 r l) := by
  pointwise [pairOf]
  rw [Nat.mod_eq_of_lt e.isLt]

theorem headY_at (P e : ℕ) (hP : P < 32) (he : e < 2) (C : Vec Ideal S256x3072 .fp8e4m3) (sc : Vec Ideal S256x128 .f32)
    (x2 : Vec Ideal S3072x8192 .fp8e4m3) (x3 : Vec Ideal S1x8192 .f32) (r : Fin 256) (l : Fin 128) (col : Fin 8192) (hcol : col.val = 256 * P + 128 * e + l.val) :
    headY (F := Ideal) P e hP he C sc x2 x3 (ix2 r l)
      = yRow (fun k => C (ix2 r k)) (fun k => x2 (ix2 k col)) (sc (ix2 r l)) (x3 (ix2 (0 : Fin 1) col)) := by
  pointwise [headY, k0_pay56, yRow]
  have e1 : (⟨512 * (P / 2) + (256 * (P % 2) + 128 * e + l.val), by omega⟩ : Fin 8192) = col := Fin.ext (by
    show 512 * (P / 2) + (256 * (P % 2) + 128 * e + l.val) = col.val
    omega)
  have e2 : (⟨256 * P + 128 * e + l.val, by omega⟩ : Fin 8192) = col := Fin.ext hcol.symm
  simp only [e1, e2]

end Cert.KernelIdeal.Val

end
-- ==== Proof.KArr.lean ====
/- The kernel's result arrays, as functions of the arrays its call is given. -/
module

public import proofs.«01_k».proof.Proof.KRows
public import Idealize.ShloMosaic.Lib.Pipeline.Value
public import Idealize.ShloMosaic.Lib.Pipeline.ValueKit

@[expose] public section

noncomputable section

namespace Cert.KernelIdeal.Val

open Cert.KernelIdeal Cert.KernelIdeal.Gen Cert.Rows Idealize.ShloMosaic Idealize.ShloMosaic.TcCoe Idealize.SL.Sem
open Idealize.ShloMosaic.Pipeline (Dat)
open scoped BigOperators

variable (m : (ℓ : Loc nD τ sig) → Buf (Elt Ideal) ℓ)

/-- The tokens' rows as the call is given them. -/
abbrev xA (c : Dev nD) : Fin 24576 → Fin 3072 → EReal := fun t k => (V m c main_v0 : Vec Ideal S24576x3072 .bf16) (ix2 t k)
/-- The norm's weight. -/
abbrev gA (c : Dev nD) : Fin 3072 → EReal := fun k => (V m c main_v1 : Vec Ideal S1x3072 .f32) (ix2 (0 : Fin 1) k)
/-- The projection's weights. -/
abbrev wA (c : Dev nD) : Fin 3072 → Fin 8192 → EReal := fun k l => (V m c main_arg2 : Vec Ideal S3072x8192 .fp8e4m3) (ix2 k l)
/-- The projection's column scales. -/
abbrev wsA (c : Dev nD) : Fin 8192 → EReal := fun l => (V m c main_v2 : Vec Ideal S1x8192 .f32) (ix2 (0 : Fin 1) l)
/-- The query norm's weight. -/
abbrev qnA (c : Dev nD) : Fin 128 → EReal := fun l => (V m c main_v3 : Vec Ideal S1x128 .f32) (ix2 (0 : Fin 1) l)
/-- The key norm's weight. -/
abbrev knA (c : Dev nD) : Fin 128 → EReal := fun l => (V m c main_v4 : Vec Ideal S1x128 .f32) (ix2 (0 : Fin 1) l)

theorem hz2 : (![0, 0] : Fin 2 → ℕ) = fun _ => 0 := by decide

theorem idx0 : ∀ t : Fin cfg0.N, win0_0.index t 0 = t.val ∧ win0_0.index t 1 = 0 := by decide +kernel
theorem idx1 : ∀ (t : Fin cfg0.N) (a : Fin 2), win0_1.index t a = 0 := by decide +kernel
theorem idx2 : ∀ (t : Fin cfg0.N) (a : Fin 2), win0_2.index t a = 0 := by decide +kernel
theorem idx3 : ∀ (t : Fin cfg0.N) (a : Fin 2), win0_3.index t a = 0 := by decide +kernel
theorem idx4 : ∀ (t : Fin cfg0.N) (a : Fin 2), win0_4.index t a = 0 := by decide +kernel
theorem idx5 : ∀ (t : Fin cfg0.N) (a : Fin 2), win0_5.index t a = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ (t : Fin cfg0.N) (a : Fin 2), win0_10.index t a = 0 := by decide +kernel

/-- Token `r` of point `t`. -/
def tok (t : Fin cfg0.N) (r : Fin 256) : Fin 24576 :=
  ⟨256 * t.val + r.val, by have h : t.val < 96 := lt_of_lt_of_eq t.isLt N_0; omega⟩

section
variable (c : Dev nD) (t : Fin cfg0.N)

theorem iblk0_at (r : Fin 256) (b : Fin 3072) :
    (iblk m c 0 t : Vec Ideal S256x3072 .bf16) (ix2 r b) = xA m c (tok t r) b := by
  unfold tok
  blk_ext [iblk, (idx0 t).1, (idx0 t).2]

theorem iblk1_at (b : Fin 3072) : (iblk m c 1 t : Vec Ideal S1x3072 .f32) (ix2 (0 : Fin 1) b) = gA m c b := by
  blk_ext [iblk, idx1 t]

theorem iblk2_at (a : Fin 3072) (b : Fin 8192) : (iblk m c 2 t : Vec Ideal S3072x8192 .fp8e4m3) (ix2 a b) = wA m c a b := by
  blk_ext [iblk, idx2 t]

theorem iblk3_at (b : Fin 8192) : (iblk m c 3 t : Vec Ideal S1x8192 .f32) (ix2 (0 : Fin 1) b) = wsA m c b := by
  blk_ext [iblk, idx3 t]

theorem iblk4_at (b : Fin 128) : (iblk m c 4 t : Vec Ideal S1x128 .f32) (ix2 (0 : Fin 1) b) = qnA m c b := by
  blk_ext [iblk, idx4 t]

theorem iblk5_at (b : Fin 128) : (iblk m c 5 t : Vec Ideal S1x128 .f32) (ix2 (0 : Fin 1) b) = knA m c b := by
  blk_ext [iblk, idx5 t]

theorem rows_at (x : Vec Ideal S256x3072 .bf16) (r : Fin 256) (k : Fin 3072) :
    rows32 x (⟨r.val / 32, by omega⟩ : Fin 8) (ix2 (⟨r.val % 32, by omega⟩ : Fin 32) k) = x (ix2 r k) := by
  have e : (⟨32 * (r.val / 32) + r.val % 32, by omega⟩ : Fin 256) = r := Fin.ext (by show 32 * (r.val / 32) + r.val % 32 = r.val; omega)
  show x (ix2 (⟨32 * (r.val / 32) + r.val % 32, _⟩ : Fin 256) k) = x (ix2 r k)
  rw [e]

theorem codes_at (r : Fin 256) (l : Fin 3072) : codesAt m c t (ix2 r l)
    = cRow (hRow (xA m c (tok t r)) (gA m c) l) (iK (vTok (xA m c) (gA m c) (tok t r))) := by
  unfold codesAt
  rw [codesV_at _ _ (⟨r.val / 32, by omega⟩ : Fin 8) (⟨r.val % 32, by omega⟩ : Fin 32) l (ix2 r l)
    (by show r.val = 32 * (r.val / 32) + r.val % 32; omega) rfl]
  unfold codes32
  rw [pay5_at, pay3_at, pay2_at]
  simp only [rows_at, iblk0_at, iblk1_at]
  rfl

theorem scales_at (r : Fin 256) (l : Fin 128) : scaleAt m c t (ix2 r l) = sK (vTok (xA m c) (gA m c) (tok t r)) := by
  unfold scaleAt
  rw [scaleV_at _ _ (⟨r.val / 32, by omega⟩ : Fin 8) (⟨r.val % 32, by omega⟩ : Fin 32) l (ix2 r l)
    (by show r.val = 32 * (r.val / 32) + r.val % 32; omega) rfl]
  rw [scale32_at, pay3_at]
  simp only [rows_at, iblk0_at, iblk1_at]
  rfl
end

theorem pairN_at (P : ℕ) (hP : P < 32) (C : Vec Ideal S256x3072 .fp8e4m3) (sc : Vec Ideal S256x128 .f32)
    (x2 : Vec Ideal S3072x8192 .fp8e4m3) (x3 : Vec Ideal S1x8192 .f32) (nw : Vec Ideal S1x128 .f32) (r : Fin 256) (e : Fin 2) (l : Fin 128) :
    pairN (F := Ideal) P hP C sc x2 x3 nw (ix3 r e l)
      = nRow (fun k => headY (F := Ideal) P e.val hP e.isLt C sc x2 x3 (ix2 r k)) (fun k => nw (ix2 (0 : Fin 1) k)) l := by
  unfold pairN
  rw [pairOf_at]
  rcases e with ⟨e, he⟩
  obtain rfl | rfl : e = 0 ∨ e = 1 := by omega
  · rw [if_pos rfl, headN_at]
  · rw [if_neg Nat.one_ne_zero, headN_at]

theorem pairY_at (P : ℕ) (hP : P < 32) (C : Vec Ideal S256x3072 .fp8e4m3) (sc : Vec Ideal S256x128 .f32)
    (x2 : Vec Ideal S3072x8192 .fp8e4m3) (x3 : Vec Ideal S1x8192 .f32) (r : Fin 256) (e : Fin 2) (l : Fin 128) :
    pairY (F := Ideal) P hP C sc x2 x3 (ix3 r e l) = headY (F := Ideal) P e.val hP e.isLt C sc x2 x3 (ix2 r l) := by
  unfold pairY
  rw [pairOf_at]
  rcases e with ⟨e, he⟩
  obtain rfl | rfl : e = 0 ∨ e = 1 := by omega
  · rw [if_pos rfl]
  · rw [if_neg Nat.one_ne_zero]

theorem nwOf_eq (x : Vec Ideal S1x128 .f32) : nwOf x = x := by
  unfold nwOf
  rw [View.ld_unit_zero hz2]

section
variable (c : Dev nD) (t : Fin cfg0.N)
  (hs : ∀ a, sK (vTok (xA m c) (gA m c) a) = sRow (vTok (xA m c) (gA m c) a))
  (hi : ∀ a, iK (vTok (xA m c) (gA m c) a) = iRow (vTok (xA m c) (gA m c) a))
include hs hi

theorem head_at (P e : ℕ) (hP : P < 32) (he : e < 2) (r : Fin 256) (l : Fin 128) (col : Fin 8192) (hcol : col.val = 256 * P + 128 * e + l.val) :
    headY (F := Ideal) P e hP he (codesAt m c t) (scaleAt m c t) (iblk m c 2 t) (iblk m c 3 t) (ix2 r l)
      = yTok (xA m c) (gA m c) (wA m c) (wsA m c) (tok t r) col := by
  rw [headY_at P e hP he _ _ _ _ r l col hcol, scales_at, hs]
  simp only [codes_at, hi, iblk2_at, iblk3_at]
  rfl

theorem val6 (j : S12288x128.Idx) (J : Fin 1179648) (hJ : J.val = 12288 * t.val + (j 0).val) :
    qV (codesAt m c t) (scaleAt m c t) (iblk m c 2 t) (iblk m c 3 t) (iblk m c 4 t) j
      = qTok (xA m c) (gA m c) (wA m c) (wsA m c) (qnA m c) J (j 1) := by
  have h0 : (j 0).val < 12288 := (j 0).isLt
  unfold qV qTok
  rw [pairN_at, nwOf_eq]
  have e1 : (⟨J.val / 48, by omega⟩ : Fin 24576) = tok t (⟨(j 0).val / 48, by omega⟩ : Fin 256) := Fin.ext (by
    show J.val / 48 = 256 * t.val + (j 0).val / 48
    omega)
  rw [e1]
  have e2 : ∀ k : Fin 128, headY (F := Ideal) ((j 0).val / 2 % 24) ((j 0).val % 2) (by omega) (by omega) (codesAt m c t) (scaleAt m c t)
      (iblk m c 2 t) (iblk m c 3 t) (ix2 (⟨(j 0).val / 48, by omega⟩ : Fin 256) k)
      = yTok (xA m c) (gA m c) (wA m c) (wsA m c) (tok t (⟨(j 0).val / 48, by omega⟩ : Fin 256)) (⟨J.val % 48 * 128 + k.val, by omega⟩ : Fin 8192) :=
    fun k => head_at m c t hs hi _ _ _ _ _ _ _ (by
      show J.val % 48 * 128 + k.val = 256 * ((j 0).val / 2 % 24) + 128 * ((j 0).val % 2) + k.val
      omega)
  simp only [e2, iblk4_at]
  rfl

theorem val7 (j : S2048x128.Idx) (J : Fin 196608) (hJ : J.val = 2048 * t.val + (j 0).val) :
    kV (codesAt m c t) (scaleAt m c t) (iblk m c 2 t) (iblk m c 3 t) (iblk m c 5 t) j
      = kTok (xA m c) (gA m c) (wA m c) (wsA m c) (knA m c) J (j 1) := by
  have h0 : (j 0).val < 2048 := (j 0).isLt
  unfold kV kTok
  rw [pairN_at, nwOf_eq]
  have e1 : (⟨J.val / 8, by omega⟩ : Fin 24576) = tok t (⟨(j 0).val / 8, by omega⟩ : Fin 256) := Fin.ext (by
    show J.val / 8 = 256 * t.val + (j 0).val / 8
    omega)
  rw [e1]
  have e2 : ∀ k : Fin 128, headY (F := Ideal) (24 + (j 0).val / 2 % 4) ((j 0).val % 2) (by omega) (by omega) (codesAt m c t) (scaleAt m c t)
      (iblk m c 2 t) (iblk m c 3 t) (ix2 (⟨(j 0).val / 8, by omega⟩ : Fin 256) k)
      = yTok (xA m c) (gA m c) (wA m c) (wsA m c) (tok t (⟨(j 0).val / 8, by omega⟩ : Fin 256)) (⟨6144 + (J.val % 8 * 128 + k.val), by omega⟩ : Fin 8192) :=
    fun k => head_at m c t hs hi _ _ _ _ _ _ _ (by
      show 6144 + (J.val % 8 * 128 + k.val) = 256 * (24 + (j 0).val / 2 % 4) + 128 * ((j 0).val % 2) + k.val
      omega)
  simp only [e2, iblk5_at]
  rfl

theorem val8 (j : S2048x128.Idx) (J : Fin 196608) (hJ : J.val = 2048 * t.val + (j 0).val) :
    vV (codesAt m c t) (scaleAt m c t) (iblk m c 2 t) (iblk m c 3 t) j
      = vvTok (xA m c) (gA m c) (wA m c) (wsA m c) J (j 1) := by
  have h0 : (j 0).val < 2048 := (j 0).isLt
  have h1 : (j 1).val < 128 := (j 1).isLt
  unfold vV vvTok
  rw [pairY_at]
  have e1 : (⟨J.val / 8, by omega⟩ : Fin 24576) = tok t (⟨(j 0).val / 8, by omega⟩ : Fin 256) := Fin.ext (by
    show J.val / 8 = 256 * t.val + (j 0).val / 8
    omega)
  rw [e1]
  exact head_at m c t hs hi _ _ _ _ _ _ _ (by
      show 7168 + (J.val % 8 * 128 + (j 1).val) = 256 * (28 + (j 0).val / 2 % 4) + 128 * ((j 0).val % 2) + (j 1).val
      omega)

theorem val9 (j : S256x3072.Idx) (J : Fin 24576) (hJ : J.val = 256 * t.val + (j 0).val) :
    codesAt m c t j = codeTok (xA m c) (gA m c) J (j 1) := by
  obtain ⟨a, b, rfl⟩ : ∃ (a : Fin 256) (b : Fin 3072), j = ix2 a b := ⟨_, _, eq_ix2 j⟩
  have e : J = tok t a := Fin.ext hJ
  show _ = codeTok (xA m c) (gA m c) J b
  rw [e, codes_at, hi]
  rfl

theorem val10 (n : ℕ) (hn : 95 ≤ n) (j : S12x2048.Idx) : hsAt m c n j = hsScale (xA m c) (gA m c) (j 0) (j 1) := by
  have h0 : (j 0).val < 12 := (j 0).isLt
  have h1 : (j 1).val < 2048 := (j 1).isLt
  unfold hsAt
  rw [if_pos (by omega)]
  unfold hsTok
  rw [eyeRow_at]
  unfold hsScale
  have e : ∀ t' : Fin cfg0.N, t'.val = 8 * (j 0).val + (j 1).val / 256 →
      View.ld (scaleAt m c t') (Rect.unit ![128 * ((j 1).val / 128 % 2), 0] S128x128.size (inb_half _ (by omega)))
        (ix2 (⟨(j 1).val % 128, by omega⟩ : Fin 128) (⟨(j 1).val % 128, by omega⟩ : Fin 128))
      = scaleAt m c t' (ix2 (⟨128 * ((j 1).val / 128 % 2) + (j 1).val % 128, by omega⟩ : Fin 256) (⟨(j 1).val % 128, by omega⟩ : Fin 128)) := by
    intro t' _
    refine congrArg (scaleAt m c t') (funext fun a => Fin.ext ?_)
    fin_cases a
    · show 128 * ((j 1).val / 128 % 2) + 1 * ((j 1).val % 128) = 128 * ((j 1).val / 128 % 2) + (j 1).val % 128
      omega
    · show 0 + 1 * ((j 1).val % 128) = (j 1).val % 128
      omega
  rw [e _ rfl, scales_at, hs]
  congr 2
  refine Fin.ext ?_
  show 256 * (8 * (j 0).val + (j 1).val / 256) + (128 * ((j 1).val / 128 % 2) + (j 1).val % 128) = (j 0).val * 2048 + (j 1).val
  omega
end

section
variable (c : Dev nD)
  (hs : ∀ a, sK (vTok (xA m c) (gA m c) a) = sRow (vTok (xA m c) (gA m c) a))
  (hi : ∀ a, iK (vTok (xA m c) (gA m c) a) = iRow (vTok (xA m c) (gA m c) a))
include hs hi

/-- Result array 0: the normed query heads. -/
theorem arr6 : (dats m 0 c).arrAt 6 cfg0.N = (fun j => qTok (xA m c) (gA m c) (wA m c) (wsA m c) (qnA m c) (j 0) (j 1) : Vec Ideal S1179648x128 .bf16) := by
  refine (dats m 0 c).arrAt_eq_of_covers 6 _ (by decide +kernel) fun t hf y => ?_
  blk_simp
  rw [after0_6]
  have e0 : ((win0_6.blk t).view.emb y 0).val = 12288 * t.val + (y 0).val := by blk_simp [(idx6 t).1, Nat.mul_comm]
  have e1 : (win0_6.blk t).view.emb y 1 = y 1 := Fin.ext (by blk_simp [(idx6 t).2])
  rw [e1]
  exact val6 m c t hs hi y _ e0

/-- Result array 1: the normed key heads. -/
theorem arr7 : (dats m 0 c).arrAt 7 cfg0.N = (fun j => kTok (xA m c) (gA m c) (wA m c) (wsA m c) (knA m c) (j 0) (j 1) : Vec Ideal S196608x128 .bf16) := by
  refine (dats m 0 c).arrAt_eq_of_covers 7 _ (by decide +kernel) fun t hf y => ?_
  blk_simp
  rw [after0_7]
  have e0 : ((win0_7.blk t).view.emb y 0).val = 2048 * t.val + (y 0).val := by blk_simp [(idx7 t).1, Nat.mul_comm]
  have e1 : (win0_7.blk t).view.emb y 1 = y 1 := Fin.ext (by blk_simp [(idx7 t).2])
  rw [e1]
  exact val7 m c t hs hi y _ e0

/-- Result array 2: the value heads. -/
theorem arr8 : (dats m 0 c).arrAt 8 cfg0.N = (fun j => vvTok (xA m c) (gA m c) (wA m c) (wsA m c) (j 0) (j 1) : Vec Ideal S196608x128 .bf16) := by
  refine (dats m 0 c).arrAt_eq_of_covers 8 _ (by decide +kernel) fun t hf y => ?_
  blk_simp
  rw [after0_8]
  have e0 : ((win0_8.blk t).view.emb y 0).val = 2048 * t.val + (y 0).val := by blk_simp [(idx8 t).1, Nat.mul_comm]
  have e1 : (win0_8.blk t).view.emb y 1 = y 1 := Fin.ext (by blk_simp [(idx8 t).2])
  rw [e1]
  exact val8 m c t hs hi y _ e0

/-- Result array 3: the codes. -/
theorem arr9 : (dats m 0 c).arrAt 9 cfg0.N = (fun j => codeTok (xA m c) (gA m c) (j 0) (j 1) : Vec Ideal S24576x3072 .fp8e4m3) := by
  refine (dats m 0 c).arrAt_eq_of_covers 9 _ (by decide +kernel) fun t hf y => ?_
  blk_simp
  rw [after0_9]
  have e0 : ((win0_9.blk t).view.emb y 0).val = 256 * t.val + (y 0).val := by blk_simp [(idx9 t).1, Nat.mul_comm]
  have e1 : (win0_9.blk t).view.emb y 1 = y 1 := Fin.ext (by blk_simp [(idx9 t).2])
  rw [e1]
  exact val9 m c t hs hi y _ e0

/-- Result array 4: the scales. -/
theorem arr10 : (dats m 0 c).arrAt 10 cfg0.N = (fun j => hsScale (xA m c) (gA m c) (j 0) (j 1) : Vec Ideal S12x2048 .f32) := by
  have last : ∀ t : Fin cfg0.N, (win0_10.flush t = true) → 95 ≤ t.val := by decide +kernel
  refine (dats m 0 c).arrAt_eq_of_covers 10 _ (by decide +kernel) fun t hf y => ?_
  blk_simp
  rw [after0_10]
  have e0 : (win0_10.blk t).view.emb y 0 = y 0 := Fin.ext (by blk_simp [idx10 t])
  have e1 : (win0_10.blk t).view.emb y 1 = y 1 := Fin.ext (by blk_simp [idx10 t])
  rw [e0, e1]
  exact val10 m c hs hi t.val (last t hf) y
end

variable (ρ : Dev nD → PrngReg)

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v5_4) = (dats m 0 c).arrAt 10 cfg0.N :=
  (h c).1 10

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => have h := hr.1; ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Val

end
-- ==== Proof.RRows.lean ====
/- The reference's payloads at an index, as functions of the token's row. -/
module

public import proofs.«01_k».proof.Proof.Rows
public import proofs.«01_k».proof.Proof.Gen.ReferenceIdeal.Frame
public import Idealize.ShloMosaic.Lib.Pointwise

@[expose] public section

noncomputable section

namespace Cert.ReferenceIdeal.Rows

open Cert.ReferenceIdeal Cert.ReferenceIdeal.Gen Cert.Rows Idealize.ShloMosaic Idealize.ShloMosaic.TcCoe Idealize.SL.Sem
open scoped BigOperators

/-! Operations whole, at an index, at any shape. -/

theorem absf_at {S : Shape} (A : FVec Ideal S .f32) (i : S.Idx) : absf A i = max (A i) (-(A i)) := rfl

theorem exp2_at {S : Shape} (A : FVec Ideal S .f32) (i : S.Idx) : exp2 A i = Ideal.exp2 (A i) := rfl

theorem negOf_at {S : Shape} (A : FVec Ideal S .f32) (i : S.Idx) :
    subf (broadcast S (Scalar.ofBits .f32 0x00000000#32)) A i = Ideal.ofBits .f32 0x00000000#32 - A i := rfl

/-- The exponents of a vector of largest magnitudes, as the reference computes them. -/
def expOf {S : Shape} (A : FVec Ideal S .f32) : FVec Ideal S .f32 :=
  select (cmpf .olt (mulf A (broadcast S (Scalar.ofBits .f32 0x3B124925#32))) (broadcast S (Scalar.ofBits .f32 0x00800000#32)))
    (broadcast S (Scalar.ofBits .f32 0x00000000#32))
    (addf (floor (divf (log (mulf A (broadcast S (Scalar.ofBits .f32 0x3B124925#32)))) (broadcast S (Scalar.log (F := Ideal) (Scalar.ofBits .f32 0x40000000#32)))))
      (broadcast S (Scalar.ofBits .f32 0x3F800000#32)))

theorem expOf_at {S : Shape} (A : FVec Ideal S .f32) (i : S.Idx) : expOf A i = eRow (A i * Ideal.ofBits .f32 0x3B124925#32) := by
  unfold eRow
  show (if BitVec.ofBool (decide (A i * Ideal.ofBits .f32 0x3B124925#32 < Ideal.ofBits .f32 0x00800000#32)) = 1 then
    Ideal.ofBits .f32 0x00000000#32 else (Ideal.liftRound Int.floor (Ideal.div (Ideal.log (A i * Ideal.ofBits .f32 0x3B124925#32)) (Ideal.log (Ideal.ofBits .f32 0x40000000#32))) + Ideal.ofBits .f32 0x3F800000#32)) = _
  by_cases h : A i * Ideal.ofBits .f32 0x3B124925#32 < Ideal.ofBits .f32 0x00800000#32
  · rw [if_pos h, if_pos (by simp [h])]
  · rw [if_neg h, if_neg (by simp [h])]

/-- The codes of a vector of values and one of reciprocal scales. -/
def codeOf {S : Shape} (H I : FVec Ideal S .f32) : FVec Ideal S .fp8e4m3 :=
  truncf .fp8e4m3 (minimumf (broadcast S (Scalar.ofBits .f32 0x43E00000#32)) (maximumf (broadcast S (Scalar.ofBits .f32 0xC3E00000#32)) (mulf H I))) bitsLt_fp8e4m3_f32

theorem codeOf_at {S : Shape} (H I : FVec Ideal S .f32) (i : S.Idx) : codeOf H I i = cRow (H i) (I i) := rfl

theorem mx_at (A : FVec Ideal S24576x3072 .f32) (t : Fin 24576) :
    shapeCast S24576x1 (multiReduction .maximumf [1] S24576 A 0xFF800000#32 reduces_S24576x3072_S24576 (.inl rfl) rfl) shapeCasts_S24576_S24576x1 (ix2 t (0 : Fin 1))
      = Finset.univ.fold max (Ideal.ofBits .f32 0xFF800000#32) (fun k : Fin 3072 => A (ix2 t k)) := by
  pointwise []

theorem bc_at (A : FVec Ideal S24576x1 .f32) (t : Fin 24576) (l : Fin 3072) :
    broadcastTo S24576x3072 A broadcasts_S24576x1_S24576x3072 (ix2 t l) = A (ix2 t (0 : Fin 1)) := by
  pointwise []

section
variable (x : Vec Ideal S24576x3072 .bf16) (w : Vec Ideal S1x3072 .f32)

theorem pay4_at (t : Fin 24576) (l : Fin 3072) :
    k0_pay4 (F := Ideal) x w (ix2 t l) = hRow (fun k => x (ix2 t k)) (fun k => w (ix2 (0 : Fin 1) k)) l := by
  pointwise [k0_pay4, hRow]

theorem pay5_eq : k0_pay5 (F := Ideal) x w = expOf (shapeCast S24576x1 (multiReduction .maximumf [1] S24576 (absf (k0_pay4 (F := Ideal) x w))
    0xFF800000#32 reduces_S24576x3072_S24576 (.inl rfl) rfl) shapeCasts_S24576_S24576x1) := rfl

theorem pay6_eq : k0_pay6 (F := Ideal) x w = exp2 (k0_pay5 (F := Ideal) x w) := rfl

theorem pay7_eq : k0_pay7 (F := Ideal) x w = codeOf (k0_pay4 (F := Ideal) x w) (broadcastTo S24576x3072
    (exp2 (subf (broadcast S24576x1 (Scalar.ofBits .f32 0x00000000#32)) (k0_pay5 (F := Ideal) x w))) broadcasts_S24576x1_S24576x3072) := rfl

theorem pay5_at (t : Fin 24576) :
    k0_pay5 (F := Ideal) x w (ix2 t (0 : Fin 1)) = eRow (vRow (hRow (fun k => x (ix2 t k)) (fun k => w (ix2 (0 : Fin 1) k)))) := by
  rw [pay5_eq, expOf_at, mx_at]
  simp only [absf_at, pay4_at]
  unfold vRow
  rfl

theorem pay6_at (t : Fin 24576) :
    k0_pay6 (F := Ideal) x w (ix2 t (0 : Fin 1)) = sRow (vRow (hRow (fun k => x (ix2 t k)) (fun k => w (ix2 (0 : Fin 1) k)))) := by
  rw [pay6_eq, exp2_at, pay5_at]
  unfold sRow
  rfl

theorem pay7_at (t : Fin 24576) (l : Fin 3072) :
    k0_pay7 (F := Ideal) x w (ix2 t l) = cRow (hRow (fun k => x (ix2 t k)) (fun k => w (ix2 (0 : Fin 1) k)) l)
      (iRow (vRow (hRow (fun k => x (ix2 t k)) (fun k => w (ix2 (0 : Fin 1) k))))) := by
  rw [pay7_eq, codeOf_at, pay4_at, bc_at, exp2_at, negOf_at, pay5_at]
  unfold iRow
  rfl
end

section
variable (s : FVec Ideal S24576x1 .f32) (c : FVec Ideal S24576x3072 .fp8e4m3) (W : Vec Ideal S3072x8192 .fp8e4m3) (ws : Vec Ideal S1x8192 .f32)

theorem pay8_at (t : Fin 24576) (col : Fin 8192) : k0_pay8 (F := Ideal) s c W ws (ix2 t col)
    = yRow (fun k => c (ix2 t k)) (fun k => W (ix2 k col)) (s (ix2 t (0 : Fin 1))) (ws (ix2 (0 : Fin 1) col)) := by
  pointwise [k0_pay8, yRow]

theorem pay10_at (nw : Vec Ideal S1x128 .f32) (j : Fin 1179648) (l : Fin 128) : k0_pay10 (F := Ideal) s c W ws nw (ix2 j l)
    = nRow (fun k => k0_pay8 (F := Ideal) s c W ws (ix2 (⟨j.val / 48, by omega⟩ : Fin 24576) (⟨j.val % 48 * 128 + k.val, by omega⟩ : Fin 8192)))
      (fun k => nw (ix2 (0 : Fin 1) k)) l := by
  pointwise [k0_pay10, nRow]

theorem pay1_at (nw : Vec Ideal S1x128 .f32) (j : Fin 196608) (l : Fin 128) :
    k0_pay1 (F := Ideal) (k0_pay11 (F := Ideal) nw) (k0_pay12 (F := Ideal) s c W ws) (ix2 j l)
    = nRow (fun k => k0_pay8 (F := Ideal) s c W ws (ix2 (⟨j.val / 8, by omega⟩ : Fin 24576) (⟨6144 + (j.val % 8 * 128 + k.val), by omega⟩ : Fin 8192)))
      (fun k => nw (ix2 (0 : Fin 1) k)) l := by
  pointwise [k0_pay1, k0_pay11, k0_pay12, nRow]

theorem pay2_at (j : Fin 196608) (l : Fin 128) : k0_pay2 (F := Ideal) (k0_pay9 (F := Ideal) s c W ws) (ix2 j l)
    = k0_pay8 (F := Ideal) s c W ws (ix2 (⟨j.val / 8, by omega⟩ : Fin 24576) (⟨7168 + (j.val % 8 * 128 + l.val), by omega⟩ : Fin 8192)) := by
  pointwise [k0_pay2, k0_pay9]

theorem pay3_at (b : Fin 12) (q : Fin 2048) : k0_pay3 (F := Ideal) s (ix2 b q) = s (ix2 (⟨b.val * 2048 + q.val, by omega⟩ : Fin 24576) (0 : Fin 1)) := by
  pointwise [k0_pay3]
end

end Cert.ReferenceIdeal.Rows

end
-- ==== Proof.RArr.lean ====
/- The reference's result arrays, as functions of the arrays its call is given. -/
module

public import proofs.«01_k».proof.Proof.RRows
public import Idealize.ShloMosaic.Lib.Pipeline.Value
public import Idealize.ShloMosaic.Lib.Pipeline.ValueKit

@[expose] public section

noncomputable section

namespace Cert.ReferenceIdeal.Rows

open Cert.ReferenceIdeal Cert.ReferenceIdeal.Gen Cert.Rows Idealize.ShloMosaic Idealize.ShloMosaic.TcCoe Idealize.SL.Sem
open Idealize.ShloMosaic.Pipeline (Dat)
open scoped BigOperators

variable (m : (ℓ : Loc nD τ sig) → Buf (Elt Ideal) ℓ)

/-- The tokens' rows as the call is given them. -/
abbrev xA (c : Dev nD) : Fin 24576 → Fin 3072 → EReal := fun t k => (V m c main_v0 : Vec Ideal S24576x3072 .bf16) (ix2 t k)
/-- The norm's weight. -/
abbrev gA (c : Dev nD) : Fin 3072 → EReal := fun k => (V m c main_v1 : Vec Ideal S1x3072 .f32) (ix2 (0 : Fin 1) k)
/-- The projection's weights. -/
abbrev wA (c : Dev nD) : Fin 3072 → Fin 8192 → EReal := fun k l => (V m c main_arg2 : Vec Ideal S3072x8192 .fp8e4m3) (ix2 k l)
/-- The projection's column scales. -/
abbrev wsA (c : Dev nD) : Fin 8192 → EReal := fun l => (V m c main_v2 : Vec Ideal S1x8192 .f32) (ix2 (0 : Fin 1) l)
/-- The query norm's weight. -/
abbrev qnA (c : Dev nD) : Fin 128 → EReal := fun l => (V m c main_v3 : Vec Ideal S1x128 .f32) (ix2 (0 : Fin 1) l)
/-- The key norm's weight. -/
abbrev knA (c : Dev nD) : Fin 128 → EReal := fun l => (V m c main_v4 : Vec Ideal S1x128 .f32) (ix2 (0 : Fin 1) l)

theorem hz2 : (![0, 0] : Fin 2 → ℕ) = fun _ => 0 := by decide

theorem idx0 : ∀ (t : Fin cfg0.N) (a : Fin 2), win0_0.index t a = 0 := by decide +kernel
theorem idx1 : ∀ (t : Fin cfg0.N) (a : Fin 2), win0_1.index t a = 0 := by decide +kernel
theorem idx2 : ∀ (t : Fin cfg0.N) (a : Fin 2), win0_2.index t a = 0 := by decide +kernel
theorem idx3 : ∀ (t : Fin cfg0.N) (a : Fin 2), win0_3.index t a = 0 := by decide +kernel
theorem idx4 : ∀ (t : Fin cfg0.N) (a : Fin 2), win0_4.index t a = 0 := by decide +kernel
theorem idx5 : ∀ (t : Fin cfg0.N) (a : Fin 2), win0_5.index t a = 0 := by decide +kernel
theorem idx6 : ∀ (t : Fin cfg0.N) (a : Fin 2), win0_6.index t a = 0 := by decide +kernel
theorem idx7 : ∀ (t : Fin cfg0.N) (a : Fin 2), win0_7.index t a = 0 := by decide +kernel
theorem idx8 : ∀ (t : Fin cfg0.N) (a : Fin 2), win0_8.index t a = 0 := by decide +kernel
theorem idx9 : ∀ (t : Fin cfg0.N) (a : Fin 2), win0_9.index t a = 0 := by decide +kernel
theorem idx10 : ∀ (t : Fin cfg0.N) (a : Fin 2), win0_10.index t a = 0 := by decide +kernel

theorem iblk0_at (c : Dev nD) (t : Fin cfg0.N) (a : Fin 24576) (b : Fin 3072) :
    (iblk m c 0 t : Vec Ideal S24576x3072 .bf16) (ix2 a b) = xA m c a b := by
  blk_ext [iblk, idx0 t]

theorem iblk1_at (c : Dev nD) (t : Fin cfg0.N) (b : Fin 3072) :
    (iblk m c 1 t : Vec Ideal S1x3072 .f32) (ix2 (0 : Fin 1) b) = gA m c b := by
  blk_ext [iblk, idx1 t]

theorem iblk2_at (c : Dev nD) (t : Fin cfg0.N) (a : Fin 3072) (b : Fin 8192) :
    (iblk m c 2 t : Vec Ideal S3072x8192 .fp8e4m3) (ix2 a b) = wA m c a b := by
  blk_ext [iblk, idx2 t]

theorem iblk3_at (c : Dev nD) (t : Fin cfg0.N) (b : Fin 8192) :
    (iblk m c 3 t : Vec Ideal S1x8192 .f32) (ix2 (0 : Fin 1) b) = wsA m c b := by
  blk_ext [iblk, idx3 t]

theorem iblk4_at (c : Dev nD) (t : Fin cfg0.N) (b : Fin 128) :
    (iblk m c 4 t : Vec Ideal S1x128 .f32) (ix2 (0 : Fin 1) b) = qnA m c b := by
  blk_ext [iblk, idx4 t]

theorem iblk5_at (c : Dev nD) (t : Fin cfg0.N) (b : Fin 128) :
    (iblk m c 5 t : Vec Ideal S1x128 .f32) (ix2 (0 : Fin 1) b) = knA m c b := by
  blk_ext [iblk, idx5 t]

section
variable (c : Dev nD) (t : Fin cfg0.N)

theorem code_at (a : Fin 24576) (b : Fin 3072) : k0_pay7 (F := Ideal) (iblk m c 0 t) (iblk m c 1 t) (ix2 a b) = codeTok (xA m c) (gA m c) a b := by
  rw [pay7_at]
  unfold codeTok vTok
  simp only [iblk0_at, iblk1_at]

theorem scale_at (a : Fin 24576) : k0_pay6 (F := Ideal) (iblk m c 0 t) (iblk m c 1 t) (ix2 a (0 : Fin 1)) = sRow (vTok (xA m c) (gA m c) a) := by
  rw [pay6_at]
  unfold vTok
  simp only [iblk0_at, iblk1_at]

theorem proj_at (a : Fin 24576) (b : Fin 8192) :
    k0_pay8 (F := Ideal) (k0_pay6 (F := Ideal) (iblk m c 0 t) (iblk m c 1 t)) (k0_pay7 (F := Ideal) (iblk m c 0 t) (iblk m c 1 t)) (iblk m c 2 t) (iblk m c 3 t) (ix2 a b)
      = yTok (xA m c) (gA m c) (wA m c) (wsA m c) a b := by
  rw [pay8_at, scale_at]
  unfold yTok
  simp only [code_at, iblk2_at, iblk3_at]

theorem val6 (j : S1179648x128.Idx) :
    k0_pay10 (F := Ideal) (k0_pay6 (F := Ideal) (iblk m c 0 t) (iblk m c 1 t)) (k0_pay7 (F := Ideal) (iblk m c 0 t) (iblk m c 1 t)) (iblk m c 2 t) (iblk m c 3 t) (iblk m c 4 t) j
      = qTok (xA m c) (gA m c) (wA m c) (wsA m c) (qnA m c) (j 0) (j 1) := by
  obtain ⟨a, b, rfl⟩ : ∃ (a : Fin 1179648) (b : Fin 128), j = ix2 a b := ⟨_, _, eq_ix2 j⟩
  show _ = qTok (xA m c) (gA m c) (wA m c) (wsA m c) (qnA m c) a b
  rw [pay10_at]
  unfold qTok
  simp only [proj_at, iblk4_at]

theorem val7 (j : S196608x128.Idx) :
    k0_pay1 (F := Ideal) (k0_pay11 (F := Ideal) (iblk m c 5 t)) (k0_pay12 (F := Ideal) (k0_pay6 (F := Ideal) (iblk m c 0 t) (iblk m c 1 t)) (k0_pay7 (F := Ideal) (iblk m c 0 t) (iblk m c 1 t)) (iblk m c 2 t) (iblk m c 3 t)) j
      = kTok (xA m c) (gA m c) (wA m c) (wsA m c) (knA m c) (j 0) (j 1) := by
  obtain ⟨a, b, rfl⟩ : ∃ (a : Fin 196608) (b : Fin 128), j = ix2 a b := ⟨_, _, eq_ix2 j⟩
  show _ = kTok (xA m c) (gA m c) (wA m c) (wsA m c) (knA m c) a b
  rw [pay1_at]
  unfold kTok
  simp only [proj_at, iblk5_at]

theorem val8 (j : S196608x128.Idx) :
    k0_pay2 (F := Ideal) (k0_pay9 (F := Ideal) (k0_pay6 (F := Ideal) (iblk m c 0 t) (iblk m c 1 t)) (k0_pay7 (F := Ideal) (iblk m c 0 t) (iblk m c 1 t)) (iblk m c 2 t) (iblk m c 3 t)) j
      = vvTok (xA m c) (gA m c) (wA m c) (wsA m c) (j 0) (j 1) := by
  obtain ⟨a, b, rfl⟩ : ∃ (a : Fin 196608) (b : Fin 128), j = ix2 a b := ⟨_, _, eq_ix2 j⟩
  show _ = vvTok (xA m c) (gA m c) (wA m c) (wsA m c) a b
  rw [pay2_at]
  unfold vvTok
  simp only [proj_at]

theorem val9 (j : S24576x3072.Idx) :
    k0_pay7 (F := Ideal) (iblk m c 0 t) (iblk m c 1 t) j = codeTok (xA m c) (gA m c) (j 0) (j 1) := by
  obtain ⟨a, b, rfl⟩ : ∃ (a : Fin 24576) (b : Fin 3072), j = ix2 a b := ⟨_, _, eq_ix2 j⟩
  exact code_at m c t a b

theorem val10 (j : S12x2048.Idx) :
    k0_pay3 (F := Ideal) (k0_pay6 (F := Ideal) (iblk m c 0 t) (iblk m c 1 t)) j = hsScale (xA m c) (gA m c) (j 0) (j 1) := by
  obtain ⟨a, b, rfl⟩ : ∃ (a : Fin 12) (b : Fin 2048), j = ix2 a b := ⟨_, _, eq_ix2 j⟩
  show _ = hsScale (xA m c) (gA m c) a b
  rw [pay3_at, scale_at]
  unfold hsScale
  rfl
end

theorem arr6 (c : Dev nD) : (dats m 0 c).arrAt 6 cfg0.N = (fun j => qTok (xA m c) (gA m c) (wA m c) (wsA m c) (qnA m c) (j 0) (j 1) : Vec Ideal S1179648x128 .bf16) := by
  refine (dats m 0 c).arrAt_eq_of_covers 6 _ (by decide +kernel) fun t hf y => ?_
  blk_simp
  rw [after0_6]
  unfold out0_6 k0_pay14 k0_pay13
  rw [View.canon_unit_zero hz2]
  rw [View.ld_unit_zero hz2, View.ld_unit_zero hz2, View.ld_unit_zero hz2, View.ld_unit_zero hz2, View.ld_unit_zero hz2]
  have e0 : (win0_6.blk t).view.emb y 0 = y 0 := Fin.ext (by blk_simp [idx6 t])
  have e1 : (win0_6.blk t).view.emb y 1 = y 1 := Fin.ext (by blk_simp [idx6 t])
  rw [e0, e1]
  exact val6 m c t y

theorem arr7 (c : Dev nD) : (dats m 0 c).arrAt 7 cfg0.N = (fun j => kTok (xA m c) (gA m c) (wA m c) (wsA m c) (knA m c) (j 0) (j 1) : Vec Ideal S196608x128 .bf16) := by
  refine (dats m 0 c).arrAt_eq_of_covers 7 _ (by decide +kernel) fun t hf y => ?_
  blk_simp
  rw [after0_7]
  unfold out0_7 k0_pay14 k0_pay13
  rw [View.canon_unit_zero hz2]
  rw [View.ld_unit_zero hz2, View.ld_unit_zero hz2, View.ld_unit_zero hz2, View.ld_unit_zero hz2, View.ld_unit_zero hz2]
  have e0 : (win0_7.blk t).view.emb y 0 = y 0 := Fin.ext (by blk_simp [idx7 t])
  have e1 : (win0_7.blk t).view.emb y 1 = y 1 := Fin.ext (by blk_simp [idx7 t])
  rw [e0, e1]
  exact val7 m c t y

theorem arr8 (c : Dev nD) : (dats m 0 c).arrAt 8 cfg0.N = (fun j => vvTok (xA m c) (gA m c) (wA m c) (wsA m c) (j 0) (j 1) : Vec Ideal S196608x128 .bf16) := by
  refine (dats m 0 c).arrAt_eq_of_covers 8 _ (by decide +kernel) fun t hf y => ?_
  blk_simp
  rw [after0_8]
  unfold out0_8 k0_pay14 k0_pay13
  rw [View.canon_unit_zero hz2]
  rw [View.ld_unit_zero hz2, View.ld_unit_zero hz2, View.ld_unit_zero hz2, View.ld_unit_zero hz2]
  have e0 : (win0_8.blk t).view.emb y 0 = y 0 := Fin.ext (by blk_simp [idx8 t])
  have e1 : (win0_8.blk t).view.emb y 1 = y 1 := Fin.ext (by blk_simp [idx8 t])
  rw [e0, e1]
  exact val8 m c t y

theorem arr9 (c : Dev nD) : (dats m 0 c).arrAt 9 cfg0.N = (fun j => codeTok (xA m c) (gA m c) (j 0) (j 1) : Vec Ideal S24576x3072 .fp8e4m3) := by
  refine (dats m 0 c).arrAt_eq_of_covers 9 _ (by decide +kernel) fun t hf y => ?_
  blk_simp
  rw [after0_9]
  unfold out0_9 k0_pay14
  rw [View.canon_unit_zero hz2]
  rw [View.ld_unit_zero hz2, View.ld_unit_zero hz2]
  have e0 : (win0_9.blk t).view.emb y 0 = y 0 := Fin.ext (by blk_simp [idx9 t])
  have e1 : (win0_9.blk t).view.emb y 1 = y 1 := Fin.ext (by blk_simp [idx9 t])
  rw [e0, e1]
  exact val9 m c t y

theorem arr10 (c : Dev nD) : (dats m 0 c).arrAt 10 cfg0.N = (fun j => hsScale (xA m c) (gA m c) (j 0) (j 1) : Vec Ideal S12x2048 .f32) := by
  refine (dats m 0 c).arrAt_eq_of_covers 10 _ (by decide +kernel) fun t hf y => ?_
  blk_simp
  rw [after0_10]
  unfold out0_10 k0_pay13
  rw [View.canon_unit_zero hz2]
  rw [View.ld_unit_zero hz2, View.ld_unit_zero hz2]
  have e0 : (win0_10.blk t).view.emb y 0 = y 0 := Fin.ext (by blk_simp [idx10 t])
  have e1 : (win0_10.blk t).view.emb y 1 = y 1 := Fin.ext (by blk_simp [idx10 t])
  rw [e0, e1]
  exact val10 m c t y

variable (ρ : Dev nD → PrngReg)

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v5_4) = (dats m 0 c).arrAt 10 cfg0.N :=
  (h c).1 10

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Rows

end
-- ==== Proof.Final.lean ====
/- The kernel's results are the reference's: both are the same functions of the same arrays. -/
module

public import proofs.«01_k».proof.Defs
public import proofs.«01_k».proof.Proof.Math
public import proofs.«01_k».proof.Proof.KArr
public import proofs.«01_k».proof.Proof.RArr
public import proofs.«01_k».proof.Proof.Gen.Pre_finite_norm_w
public import Idealize.ShloMosaic.Lib.ReduceAll
public import Idealize.ShloMosaic.Lib.Claim
public import Idealize.ShloMosaic.Lib.ValueLayout

@[expose] public section

noncomputable section

namespace Cert.Final

open Cert.Rows Idealize.ShloMosaic Idealize.ShloMosaic.TcCoe Idealize.SL.Sem

/-- A memory of the kernel's program. -/
abbrev MemK : Type := (ℓ : Loc Cert.KernelIdeal.nD Cert.KernelIdeal.τ Cert.KernelIdeal.sig) → Buf (Elt Ideal) ℓ
/-- A memory of the reference's program. -/
abbrev MemR : Type := (ℓ : Loc Cert.ReferenceIdeal.nD Cert.ReferenceIdeal.τ Cert.ReferenceIdeal.sig) → Buf (Elt Ideal) ℓ

/-- The kernel's norm weight is its second argument. -/
theorem g_read (m : MemK) (c : Dev Cert.KernelIdeal.nD) (k : Fin 3072) :
    Cert.KernelIdeal.Val.gA m c k = (m ((c : Thread Cert.KernelIdeal.nD Cert.KernelIdeal.τ).loc Cert.KernelIdeal.main_arg1) : Vec Ideal Cert.KernelIdeal.S3072 .f32) (ix1 k) := by
  unfold Cert.KernelIdeal.Val.gA
  entry_read
  exact ValueIdx.shapeCast_a_1a_apply _ _ _ _

theorem le_of_ofBool (a b : EReal) (h : BitVec.ofBool (decide (a ≤ b)) = 1#1) : a ≤ b := by
  by_contra hn
  rw [decide_eq_false hn] at h
  exact absurd h (by decide)

/-- Under the precondition every norm weight is at most the largest finite magnitude. -/
theorem pre_read (m : MemK) (hp : Pre_KernelIdeal_finite_norm_w (hPre_finite_norm_w := Cert.Pre_finite_norm_w.Gen.facts) m) (c : Dev Cert.KernelIdeal.nD) (k : Fin 3072) :
    max (Cert.KernelIdeal.Val.gA m c k) (-Cert.KernelIdeal.Val.gA m c k) ≤ Ideal.ofBits .f32 0x7F7FFFFF#32 := by
  have h := congrFun (hp c) (fun a => a.elim0)
  rw [g_read]
  haveI : Subsingleton Cert.Pre_finite_norm_w.S_.Idx := ⟨fun a b => funext fun i => i.elim0⟩
  have h' := Host.reduce_andi_all _ _ _ _ _ h (ix1 k)
  exact le_of_ofBool _ _ h'

section
variable (m : MemK) (m' : MemR) (c : Dev Cert.KernelIdeal.nD)

theorem x_eq (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Rows.xA m' c = Cert.KernelIdeal.Val.xA m c := by
  funext t k
  unfold Cert.ReferenceIdeal.Rows.xA Cert.KernelIdeal.Val.xA
  entry_read
  exact congrArg (fun v : Vec Ideal Cert.KernelIdeal.S12x2048x3072 .bf16 => shapeCast _ v Cert.KernelIdeal.Gen.shapeCasts_S12x2048x3072_S24576x3072 (ix2 t k)) e

theorem g_eq (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Rows.gA m' c = Cert.KernelIdeal.Val.gA m c := by
  funext k
  unfold Cert.ReferenceIdeal.Rows.gA Cert.KernelIdeal.Val.gA
  entry_read
  exact congrArg (fun v : Vec Ideal Cert.KernelIdeal.S3072 .f32 => shapeCast _ v Cert.KernelIdeal.Gen.shapeCasts_S3072_S1x3072 (ix2 (0 : Fin 1) k)) e

theorem w_eq (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Rows.wA m' c = Cert.KernelIdeal.Val.wA m c := by
  funext k l
  unfold Cert.ReferenceIdeal.Rows.wA Cert.KernelIdeal.Val.wA
  rw [Cert.ReferenceIdeal.Gen.V_main_arg2 m' c, Cert.KernelIdeal.Gen.V_main_arg2 m c]
  exact congrFun e (ix2 k l)

theorem ws_eq (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Rows.wsA m' c = Cert.KernelIdeal.Val.wsA m c := by
  funext k
  unfold Cert.ReferenceIdeal.Rows.wsA Cert.KernelIdeal.Val.wsA
  entry_read
  exact congrArg (fun v : Vec Ideal Cert.KernelIdeal.S8192 .f32 => shapeCast _ v Cert.KernelIdeal.Gen.shapeCasts_S8192_S1x8192 (ix2 (0 : Fin 1) k)) e

theorem qn_eq (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Rows.qnA m' c = Cert.KernelIdeal.Val.qnA m c := by
  funext k
  unfold Cert.ReferenceIdeal.Rows.qnA Cert.KernelIdeal.Val.qnA
  entry_read
  exact congrArg (fun v : Vec Ideal Cert.KernelIdeal.S128 .f32 => shapeCast _ v Cert.KernelIdeal.Gen.shapeCasts_S128_S1x128 (ix2 (0 : Fin 1) k)) e

theorem kn_eq (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Rows.knA m' c = Cert.KernelIdeal.Val.knA m c := by
  funext k
  unfold Cert.ReferenceIdeal.Rows.knA Cert.KernelIdeal.Val.knA
  entry_read
  exact congrArg (fun v : Vec Ideal Cert.KernelIdeal.S128 .f32 => shapeCast _ v Cert.KernelIdeal.Gen.shapeCasts_S128_S1x128 (ix2 (0 : Fin 1) k)) e
end

/-- Over the extended reals and under the precondition the kernel leaves the reference's five results, the arguments unchanged. -/
theorem algebraic : algebraic_KernelIdeal_ReferenceIdeal_pre_finite_norm_w (hKernelIdeal := Cert.KernelIdeal.Gen.facts)
    (hReferenceIdeal := Cert.ReferenceIdeal.Gen.facts) (hPre_finite_norm_w := Cert.Pre_finite_norm_w.Gen.facts) := by
  intro m g m' g' hp ha
  have hg : ∀ c, ∀ k, max (Cert.KernelIdeal.Val.gA m c k) (-Cert.KernelIdeal.Val.gA m c k) ≤ Ideal.ofBits .f32 0x7F7FFFFF#32 :=
    fun c k => pre_read m hp c k
  have hs := fun c t => (tok_scale (Cert.KernelIdeal.Val.xA m c) (Cert.KernelIdeal.Val.gA m c) (hg c) t).1
  have hi := fun c t => (tok_scale (Cert.KernelIdeal.Val.xA m c) (Cert.KernelIdeal.Val.gA m c) (hg c) t).2
  refine ⟨fun c => (Cert.KernelIdeal.Val.dats m 0 c).arrAt 6 Cert.KernelIdeal.cfg0.N, fun c => (Cert.KernelIdeal.Val.dats m 0 c).arrAt 7 Cert.KernelIdeal.cfg0.N,
    fun c => (Cert.KernelIdeal.Val.dats m 0 c).arrAt 8 Cert.KernelIdeal.cfg0.N, fun c => (Cert.KernelIdeal.Val.dats m 0 c).arrAt 9 Cert.KernelIdeal.cfg0.N,
    fun c => (Cert.KernelIdeal.Val.dats m 0 c).arrAt 10 Cert.KernelIdeal.cfg0.N, Cert.KernelIdeal.Val.run_blocks m g, ?_⟩
  refine (θ_run _ _ _).mono (fun r h c => ?_) (Cert.ReferenceIdeal.Rows.run_blocks m' g')
  obtain ⟨h0, h1, h2, h3, h4, hk⟩ := h c
  obtain ⟨a0, a1, a2, a3, a4, a5⟩ := ha c
  have ex := x_eq m m' c a0
  have eg := g_eq m m' c a1
  have ew := w_eq m m' c a2
  have es := ws_eq m m' c a3
  have eq := qn_eq m m' c a4
  have ek := kn_eq m m' c a5
  refine ⟨h0.trans ?_, h1.trans ?_, h2.trans ?_, h3.trans ?_, h4.trans ?_, hk⟩
  · refine ((Cert.ReferenceIdeal.Rows.arr6 m' c).trans ?_).trans (Cert.KernelIdeal.Val.arr6 m c (hs c) (hi c)).symm
    rw [ex, eg, ew, es, eq]
  · refine ((Cert.ReferenceIdeal.Rows.arr7 m' c).trans ?_).trans (Cert.KernelIdeal.Val.arr7 m c (hs c) (hi c)).symm
    rw [ex, eg, ew, es, ek]
  · refine ((Cert.ReferenceIdeal.Rows.arr8 m' c).trans ?_).trans (Cert.KernelIdeal.Val.arr8 m c (hs c) (hi c)).symm
    rw [ex, eg, ew, es]
  · refine ((Cert.ReferenceIdeal.Rows.arr9 m' c).trans ?_).trans (Cert.KernelIdeal.Val.arr9 m c (hs c) (hi c)).symm
    rw [ex, eg]
  · refine ((Cert.ReferenceIdeal.Rows.arr10 m' c).trans ?_).trans (Cert.KernelIdeal.Val.arr10 m c (hs c) (hi c)).symm
    rw [ex, eg]

end Cert.Final

end
-- ==== Proof.lean ====
/- The proof of every claim of the certificate: the frames, the idealization's preservation, and the kernel's results
   against the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_norm_w
public import proofs.«01_k».proof.Proof.FrameKernel
public import proofs.«01_k».proof.Proof.FrameKernelIdeal
public import proofs.«01_k».proof.Proof.Final
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_finite_norm_w.Gen.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ,
    ⟨IdealRules.bf16_pair.packStatement _, IdealRules.bf16_pair.statement _ _⟩, Cert.Final.algebraic⟩

end Cert.Proof

end
